-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_stepped [hPre_stepped : Cert.Pre_stepped.Facts] (m : (ℓ : Loc Cert.KernelIdeal.nD Cert.KernelIdeal.τ Cert.KernelIdeal.sig) → Buf (Elt Ideal) ℓ) : Prop :=
  ∀ c : Dev Cert.KernelIdeal.nD,
    (Cert.Pre_stepped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_stepped [hPre_stepped : Cert.Pre_stepped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stepped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_stepped [hKernelIdeal : Cert.KernelIdeal.Facts] [hPre_stepped : Cert.Pre_stepped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stepped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_stepped [hReferenceIdeal : Cert.ReferenceIdeal.Facts] [hPre_stepped : Cert.Pre_stepped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stepped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_stepped [hKernelIdeal : Cert.KernelIdeal.Facts] [hReferenceIdeal : Cert.ReferenceIdeal.Facts] [hPre_stepped : Cert.Pre_stepped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stepped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v22)) (v5 : (c : Dev Cert.KernelIdeal.nD) → Buf (Elt Ideal) ((c.tc : Thread Cert.KernelIdeal.nD Cert.KernelIdeal.τ).loc Cert.KernelIdeal.main_v21_5)) (v6 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v22) = v4 c
          ∧ r.2.mem ((c.tc : Thread Cert.KernelIdeal.nD Cert.KernelIdeal.τ).loc Cert.KernelIdeal.main_v21_5) = v5 c
          ∧ r.2.mem ((c.tc : Thread Cert.KernelIdeal.nD Cert.KernelIdeal.τ).loc Cert.KernelIdeal.main_v23) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v99_0) = v3 c
          ∧ r.2.mem ((c.tc : Thread Cert.ReferenceIdeal.nD Cert.ReferenceIdeal.τ).loc Cert.ReferenceIdeal.main_v60) = v4 c
          ∧ r.2.mem ((c.tc : Thread Cert.ReferenceIdeal.nD Cert.ReferenceIdeal.τ).loc Cert.ReferenceIdeal.main_v99_1) = v5 c
          ∧ r.2.mem ((c.tc : Thread Cert.ReferenceIdeal.nD Cert.ReferenceIdeal.τ).loc Cert.ReferenceIdeal.main_v98) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_stepped : Cert.Pre_stepped.Facts),
    quiescent_Kernel (hKernel := hKernel)
    ∧ quiescent_KernelIdeal (hKernelIdeal := hKernelIdeal)
    ∧ quiescent_KernelIdeal_pre_stepped (hKernelIdeal := hKernelIdeal) (hPre_stepped := hPre_stepped)
    ∧ quiescent_ReferenceIdeal (hReferenceIdeal := hReferenceIdeal)
    ∧ quiescent_ReferenceIdeal_pre_stepped (hReferenceIdeal := hReferenceIdeal) (hPre_stepped := hPre_stepped)
    ∧ preserves_Kernel_KernelIdeal
    ∧ algebraic_KernelIdeal_ReferenceIdeal_pre_stepped (hKernelIdeal := hKernelIdeal) (hReferenceIdeal := hReferenceIdeal) (hPre_stepped := hPre_stepped)
-- ==== Pre_stepped.lean ====
abbrev S5x1280x8192 : Shape := ⟨3, ![5, 1280, 8192]⟩
abbrev S5 : Shape := ⟨1, ![5]⟩
abbrev S_ : Shape := ⟨0, ![]⟩

class Facts : Prop where
  bcast_S_S5 : S_.BroadcastsInDim S5 (![] : Fin 0 → Fin S5.rank)

variable [Facts]

def fn {F : FTy → Type} [FloatOps F] (main_arg0 : FVec F S5x1280x8192 .f32) (main_arg1 : FVec F S5x1280x8192 .bf16) (main_arg2 : FVec F S5x1280x8192 .f32) (main_arg3 : FVec F S5x1280x8192 .f32) (main_arg4 : FVec F S5 .f32) (main_arg5 : IVec S5 32) : IVec S5 1 :=
  let main_c : IVec S_ 32 := constantI S_ 32 0#32
  let main_v0 : IVec S5 32 := broadcastInDim S5 ![] bcast_S_S5 main_c
  let main_v1 : IVec S5 1 := cmpi .ne main_arg5 main_v0
  main_v1
-- ==== Kernel.lean ====
abbrev S5x1280x8192 : Shape := ⟨3, ![5, 1280, 8192]⟩
abbrev S5 : Shape := ⟨1, ![5]⟩
abbrev S_ : Shape := ⟨0, ![]⟩
abbrev S1x5 : Shape := ⟨2, ![1, 5]⟩
abbrev S3x5 : Shape := ⟨2, ![3, 5]⟩
abbrev S5x64x1280 : Shape := ⟨3, ![5, 64, 1280]⟩
abbrev S5x8192x1280 : Shape := ⟨3, ![5, 8192, 1280]⟩
abbrev S5x10x8192 : Shape := ⟨3, ![5, 10, 8192]⟩
abbrev S1x128x2048 : Shape := ⟨3, ![1, 128, 2048]⟩
abbrev S1x16x128 : Shape := ⟨3, ![1, 16, 128]⟩
abbrev S1x2048x128 : Shape := ⟨3, ![1, 2048, 128]⟩
abbrev S1x10x2048 : Shape := ⟨3, ![1, 10, 2048]⟩
abbrev S128x128 : Shape := ⟨2, ![128, 128]⟩
abbrev S1x1 : Shape := ⟨2, ![1, 1]⟩
abbrev S1x128x128 : Shape := ⟨3, ![1, 128, 128]⟩
abbrev S128 : Shape := ⟨1, ![128]⟩
abbrev S128x1 : Shape := ⟨2, ![128, 1]⟩
abbrev S1x128 : Shape := ⟨2, ![1, 128]⟩
abbrev S10x128 : Shape := ⟨2, ![10, 128]⟩
abbrev S1x10x128 : Shape := ⟨3, ![1, 10, 128]⟩
abbrev S16x128 : Shape := ⟨2, ![16, 128]⟩
abbrev S5x1280x64 : Shape := ⟨3, ![5, 1280, 64]⟩
abbrev S5x8192x10 : Shape := ⟨3, ![5, 8192, 10]⟩

abbrev nBuf : Space → Nat
  | .hbm => 43
  | .vmem => 23
  | .smem => 1
  | _ => 0

abbrev bufTy : (tb : Table) → Fin (tcTables nBuf tb) → BufTy
  | .hbm, ⟨0, _⟩ => ⟨S5x1280x8192, .f32⟩
  | .hbm, ⟨1, _⟩ => ⟨S5x1280x8192, .bf16⟩
  | .hbm, ⟨2, _⟩ => ⟨S5x1280x8192, .f32⟩
  | .hbm, ⟨3, _⟩ => ⟨S5x1280x8192, .f32⟩
  | .hbm, ⟨4, _⟩ => ⟨S5, .f32⟩
  | .hbm, ⟨5, _⟩ => ⟨S5, .i32⟩
  | .hbm, ⟨6, _⟩ => ⟨S5, .f32⟩
  | .hbm, ⟨7, _⟩ => ⟨S_, .f32⟩
  | .hbm, ⟨8, _⟩ => ⟨S5, .f32⟩
  | .hbm, ⟨9, _⟩ => ⟨S5, .f32⟩
  | .hbm, ⟨10, _⟩ => ⟨S_, .f32⟩
  | .hbm, ⟨11, _⟩ => ⟨S5, .f32⟩
  | .hbm, ⟨12, _⟩ => ⟨S5, .f32⟩
  | .hbm, ⟨13, _⟩ => ⟨S_, .f32⟩
  | .hbm, ⟨14, _⟩ => ⟨S5, .f32⟩
  | .hbm, ⟨15, _⟩ => ⟨S5, .f32⟩
  | .hbm, ⟨16, _⟩ => ⟨S_, .f32⟩
  | .hbm, ⟨17, _⟩ => ⟨S5, .f32⟩
  | .hbm, ⟨18, _⟩ => ⟨S5, .f32⟩
  | .hbm, ⟨19, _⟩ => ⟨S_, .f32⟩
  | .hbm, ⟨20, _⟩ => ⟨S5, .f32⟩
  | .hbm, ⟨21, _⟩ => ⟨S5, .f32⟩
  | .hbm, ⟨22, _⟩ => ⟨S_, .f32⟩
  | .hbm, ⟨23, _⟩ => ⟨S5, .f32⟩
  | .hbm, ⟨24, _⟩ => ⟨S5, .f32⟩
  | .hbm, ⟨25, _⟩ => ⟨S5, .f32⟩
  | .hbm, ⟨26, _⟩ => ⟨S5, .f32⟩
  | .hbm, ⟨27, _⟩ => ⟨S_, .f32⟩
  | .hbm, ⟨28, _⟩ => ⟨S5, .f32⟩
  | .hbm, ⟨29, _⟩ => ⟨S5, .f32⟩
  | .hbm, ⟨30, _⟩ => ⟨S1x5, .f32⟩
  | .hbm, ⟨31, _⟩ => ⟨S1x5, .f32⟩
  | .hbm, ⟨32, _⟩ => ⟨S1x5, .f32⟩
  | .hbm, ⟨33, _⟩ => ⟨S3x5, .f32⟩
  | .hbm, ⟨34, _⟩ => ⟨S5x1280x8192, .f32⟩
  | .hbm, ⟨35, _⟩ => ⟨S5x1280x8192, .f32⟩
  | .hbm, ⟨36, _⟩ => ⟨S5x1280x8192, .f32⟩
  | .hbm, ⟨37, _⟩ => ⟨S5x1280x8192, .fp8e4m3⟩
  | .hbm, ⟨38, _⟩ => ⟨S5x64x1280, .f32⟩
  | .hbm, ⟨39, _⟩ => ⟨S5x8192x1280, .fp8e4m3⟩
  | .hbm, ⟨40, _⟩ => ⟨S5x10x8192, .f32⟩
  | .hbm, ⟨41, _⟩ => ⟨S5x1280x64, .f32⟩
  | .hbm, ⟨42, _⟩ => ⟨S5x8192x10, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .fp8e4m3⟩
  | .local _ .vmem, ⟨15, _⟩ => ⟨S1x128x2048, .fp8e4m3⟩
  | .local _ .vmem, ⟨16, _⟩ => ⟨S1x16x128, .f32⟩
  | .local _ .vmem, ⟨17, _⟩ => ⟨S1x16x128, .f32⟩
  | .local _ .vmem, ⟨18, _⟩ => ⟨S1x2048x128, .fp8e4m3⟩
  | .local _ .vmem, ⟨19, _⟩ => ⟨S1x2048x128, .fp8e4m3⟩
  | .local _ .vmem, ⟨20, _⟩ => ⟨S1x10x2048, .f32⟩
  | .local _ .vmem, ⟨21, _⟩ => ⟨S1x10x2048, .f32⟩
  | .local _ .vmem, ⟨22, _⟩ => ⟨S128x128, .f32⟩
  | .local _ .smem, ⟨0, _⟩ => ⟨S3x5, .f32⟩
  | _, _ => ⟨S5x1280x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev main_v21_4 : Ref sig .tc := ⟨.hbm, 38, rfl⟩
abbrev main_v21_5 : Ref sig .tc := ⟨.hbm, 39, rfl⟩
abbrev main_v21_6 : Ref sig .tc := ⟨.hbm, 40, rfl⟩
abbrev main_v22 : Ref sig .tc := ⟨.hbm, 41, rfl⟩
abbrev main_v23 : Ref sig .tc := ⟨.hbm, 42, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![5, 4, 10], ![false, false, false]⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v2 : Index := Scalar.indexCast arg0
  ![1, v2.toNat]
def k0_off3 (i : grid0.Coords) : Fin 2 → Nat :=
  let c2 : Index := 2#32
  let arg0 : BitVec 32 := BitVec.ofNat 32 (i 0).val
  let v4 : Index := Scalar.indexCast arg0
  ![2, v4.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .smem S3x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2048x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x10x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S5x1280x8192 : Shape := ⟨3, ![5, 1280, 8192]⟩
abbrev S5 : Shape := ⟨1, ![5]⟩
abbrev S_ : Shape := ⟨0, ![]⟩
abbrev S5x1x1 : Shape := ⟨3, ![5, 1, 1]⟩
abbrev S5x1280x64x128 : Shape := ⟨4, ![5, 1280, 64, 128]⟩
abbrev S5x1280x64 : Shape := ⟨3, ![5, 1280, 64]⟩
abbrev S5x1280x64x1 : Shape := ⟨4, ![5, 1280, 64, 1]⟩
abbrev S5x10x128x8192 : Shape := ⟨4, ![5, 10, 128, 8192]⟩
abbrev S5x10x8192 : Shape := ⟨3, ![5, 10, 8192]⟩
abbrev S5x10x1x8192 : Shape := ⟨4, ![5, 10, 1, 8192]⟩
abbrev S5x8192x1280 : Shape := ⟨3, ![5, 8192, 1280]⟩
abbrev S5x8192x10 : Shape := ⟨3, ![5, 8192, 10]⟩

abbrev nBuf : Space → Nat
  | .hbm => 154
  | .vmem => 4
  | .smem => 0
  | _ => 0

abbrev hbmTy0_0 (i : Nat) : BufTy := match i % 128 with
  | 0 => ⟨S5x1280x8192, .f32⟩
  | 1 => ⟨S5x1280x8192, .bf16⟩
  | 2 => ⟨S5x1280x8192, .f32⟩
  | 3 => ⟨S5x1280x8192, .f32⟩
  | 4 => ⟨S5, .f32⟩
  | 5 => ⟨S5, .i32⟩
  | 6 => ⟨S5x1280x8192, .f32⟩
  | 7 => ⟨S_, .f32⟩
  | 8 => ⟨S5x1280x8192, .f32⟩
  | 9 => ⟨S5x1280x8192, .f32⟩
  | 10 => ⟨S_, .f32⟩
  | 11 => ⟨S5x1280x8192, .f32⟩
  | 12 => ⟨S5x1280x8192, .f32⟩
  | 13 => ⟨S5x1280x8192, .f32⟩
  | 14 => ⟨S_, .f32⟩
  | 15 => ⟨S5x1280x8192, .f32⟩
  | 16 => ⟨S5x1280x8192, .f32⟩
  | 17 => ⟨S_, .f32⟩
  | 18 => ⟨S5x1280x8192, .f32⟩
  | 19 => ⟨S5x1280x8192, .f32⟩
  | 20 => ⟨S5x1280x8192, .f32⟩
  | 21 => ⟨S5x1280x8192, .f32⟩
  | 22 => ⟨S5, .f32⟩
  | 23 => ⟨S_, .f32⟩
  | 24 => ⟨S5, .f32⟩
  | 25 => ⟨S5, .f32⟩
  | 26 => ⟨S_, .f32⟩
  | 27 => ⟨S5, .f32⟩
  | 28 => ⟨S5, .f32⟩
  | 29 => ⟨S_, .f32⟩
  | 30 => ⟨S5, .f32⟩
  | 31 => ⟨S5, .f32⟩
  | 32 => ⟨S_, .f32⟩
  | 33 => ⟨S5, .f32⟩
  | 34 => ⟨S5, .f32⟩
  | 35 => ⟨S5, .f32⟩
  | 36 => ⟨S5x1x1, .f32⟩
  | 37 => ⟨S5x1280x8192, .f32⟩
  | 38 => ⟨S5, .f32⟩
  | 39 => ⟨S5x1x1, .f32⟩
  | 40 => ⟨S5x1280x8192, .f32⟩
  | 41 => ⟨S5x1280x8192, .f32⟩
  | 42 => ⟨S_, .f32⟩
  | 43 => ⟨S5x1280x8192, .f32⟩
  | 44 => ⟨S5x1280x8192, .f32⟩
  | 45 => ⟨S_, .f32⟩
  | 46 => ⟨S5, .f32⟩
  | 47 => ⟨S5, .f32⟩
  | 48 => ⟨S_, .f32⟩
  | 49 => ⟨S5, .f32⟩
  | 50 => ⟨S5, .f32⟩
  | 51 => ⟨S5x1x1, .f32⟩
  | 52 => ⟨S5x1280x8192, .f32⟩
  | 53 => ⟨S5x1280x8192, .f32⟩
  | 54 => ⟨S5x1280x8192, .f32⟩
  | 55 => ⟨S5x1280x8192, .f32⟩
  | 56 => ⟨S5x1280x8192, .f32⟩
  | 57 => ⟨S5x1280x8192, .f32⟩
  | 58 => ⟨S5x1280x64x128, .f32⟩
  | 59 => ⟨S5x1280x64x128, .f32⟩
  | 60 => ⟨S_, .f32⟩
  | 61 => ⟨S5x1280x64, .f32⟩
  | 62 => ⟨S_, .f32⟩
  | 63 => ⟨S5x1280x64, .f32⟩
  | 64 => ⟨S5x1280x64, .f32⟩
  | 65 => ⟨S5x1280x64, .f32⟩
  | 66 => ⟨S_, .f32⟩
  | 67 => ⟨S5x1280x64, .f32⟩
  | 68 => ⟨S5x1280x64, .f32⟩
  | 69 => ⟨S5x1280x64, .f32⟩
  | 70 => ⟨S5x1280x64, .f32⟩
  | 71 => ⟨S_, .f32⟩
  | 72 => ⟨S5x1280x64, .f32⟩
  | 73 => ⟨S5x1280x64, .f32⟩
  | 74 => ⟨S_, .f32⟩
  | 75 => ⟨S5x1280x64, .f32⟩
  | 76 => ⟨S5x1280x64, .i1⟩
  | 77 => ⟨S_, .f32⟩
  | 78 => ⟨S5x1280x64, .f32⟩
  | 79 => ⟨S5x1280x64, .i1⟩
  | 80 => ⟨S5x1280x64, .i1⟩
  | 81 => ⟨S_, .i32⟩
  | 82 => ⟨S_, .f32⟩
  | 83 => ⟨S5x1280x64, .f32⟩
  | 84 => ⟨S5x1280x64, .f32⟩
  | 85 => ⟨S_, .f32⟩
  | 86 => ⟨S5x1280x64, .f32⟩
  | 87 => ⟨S5x1280x64, .f32⟩
  | 88 => ⟨S5x1280x64, .f32⟩
  | 89 => ⟨S_, .f32⟩
  | 90 => ⟨S5x1280x64, .f32⟩
  | 91 => ⟨S5x1280x64, .f32⟩
  | 92 => ⟨S5x1280x64x1, .f32⟩
  | 93 => ⟨S5x1280x64x128, .f32⟩
  | 94 => ⟨S5x1280x64x128, .f32⟩
  | 95 => ⟨S_, .f32⟩
  | 96 => ⟨S_, .f32⟩
  | 97 => ⟨S_, .f32⟩
  | 98 => ⟨S5x1280x64x128, .f32⟩
  | 99 => ⟨S5x1280x64x128, .f32⟩
  | 100 => ⟨S_, .f32⟩
  | 101 => ⟨S5x1280x64x128, .f32⟩
  | 102 => ⟨S5x1280x64x128, .f32⟩
  | 103 => ⟨S5x1280x8192, .f32⟩
  | 104 => ⟨S5x10x128x8192, .f32⟩
  | 105 => ⟨S5x10x128x8192, .f32⟩
  | 106 => ⟨S_, .f32⟩
  | 107 => ⟨S5x10x8192, .f32⟩
  | 108 => ⟨S_, .f32⟩
  | 109 => ⟨S5x10x8192, .f32⟩
  | 110 => ⟨S5x10x8192, .f32⟩
  | 111 => ⟨S5x10x8192, .f32⟩
  | 112 => ⟨S_, .f32⟩
  | 113 => ⟨S5x10x8192, .f32⟩
  | 114 => ⟨S5x10x8192, .f32⟩
  | 115 => ⟨S5x10x8192, .f32⟩
  | 116 => ⟨S5x10x8192, .f32⟩
  | 117 => ⟨S_, .f32⟩
  | 118 => ⟨S5x10x8192, .f32⟩
  | 119 => ⟨S5x10x8192, .f32⟩
  | 120 => ⟨S_, .f32⟩
  | 121 => ⟨S5x10x8192, .f32⟩
  | 122 => ⟨S5x10x8192, .i1⟩
  | 123 => ⟨S_, .f32⟩
  | 124 => ⟨S5x10x8192, .f32⟩
  | 125 => ⟨S5x10x8192, .i1⟩
  | 126 => ⟨S5x10x8192, .i1⟩
  | 127 => ⟨S_, .i32⟩
  | _ => ⟨S5x1280x8192, .f32⟩

abbrev hbmTy0_1 (i : Nat) : BufTy := match i % 128 with
  | 0 => ⟨S_, .f32⟩
  | 1 => ⟨S5x10x8192, .f32⟩
  | 2 => ⟨S5x10x8192, .f32⟩
  | 3 => ⟨S_, .f32⟩
  | 4 => ⟨S5x10x8192, .f32⟩
  | 5 => ⟨S5x10x8192, .f32⟩
  | 6 => ⟨S5x10x8192, .f32⟩
  | 7 => ⟨S_, .f32⟩
  | 8 => ⟨S5x10x8192, .f32⟩
  | 9 => ⟨S5x10x8192, .f32⟩
  | 10 => ⟨S5x10x1x8192, .f32⟩
  | 11 => ⟨S5x10x128x8192, .f32⟩
  | 12 => ⟨S5x10x128x8192, .f32⟩
  | 13 => ⟨S_, .f32⟩
  | 14 => ⟨S_, .f32⟩
  | 15 => ⟨S_, .f32⟩
  | 16 => ⟨S5x10x128x8192, .f32⟩
  | 17 => ⟨S5x10x128x8192, .f32⟩
  | 18 => ⟨S_, .f32⟩
  | 19 => ⟨S5x10x128x8192, .f32⟩
  | 20 => ⟨S5x10x128x8192, .f32⟩
  | 21 => ⟨S5x1280x8192, .f32⟩
  | 22 => ⟨S5x8192x1280, .f32⟩
  | 23 => ⟨S5x8192x10, .f32⟩
  | 24 => ⟨S5x1280x8192, .fp8e4m3⟩
  | 25 => ⟨S5x8192x1280, .fp8e4m3⟩
  | _ => ⟨S5x1280x8192, .f32⟩

abbrev hbmTy (i : Nat) : BufTy := match i / 128 with
  | 0 => hbmTy0_0 i
  | 1 => hbmTy0_1 i
  | _ => ⟨S5x1280x8192, .f32⟩

abbrev bufTy : (tb : Table) → Fin (tcTables nBuf tb) → BufTy
  | .hbm, ⟨i, _⟩ => hbmTy i
  | .local _ .vmem, ⟨0, _⟩ => ⟨S5x1280x8192, .f32⟩
  | .local _ .vmem, ⟨1, _⟩ => ⟨S5x8192x1280, .f32⟩
  | .local _ .vmem, ⟨2, _⟩ => ⟨S5x1280x8192, .fp8e4m3⟩
  | .local _ .vmem, ⟨3, _⟩ => ⟨S5x8192x1280, .fp8e4m3⟩
  | _, _ => ⟨S5x1280x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c : Ref sig .tc := ⟨.hbm, 81, rfl⟩
abbrev main_call0_v0 : Ref sig .tc := ⟨.hbm, 82, rfl⟩
abbrev main_call0_v1 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_17 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_18 : Ref sig .tc := ⟨.hbm, 95, rfl⟩
abbrev main_cst_19 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_20 : Ref sig .tc := ⟨.hbm, 106, rfl⟩
abbrev main_v71 : Ref sig .tc := ⟨.hbm, 107, rfl⟩
abbrev main_cst_21 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_22 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_23 : Ref sig .tc := ⟨.hbm, 117, rfl⟩
abbrev main_v79 : Ref sig .tc := ⟨.hbm, 118, rfl⟩
abbrev main_v80 : Ref sig .tc := ⟨.hbm, 119, rfl⟩
abbrev main_cst_24 : Ref sig .tc := ⟨.hbm, 120, rfl⟩
abbrev main_v81 : Ref sig .tc := ⟨.hbm, 121, rfl⟩
abbrev main_v82 : Ref sig .tc := ⟨.hbm, 122, rfl⟩
abbrev main_cst_25 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_26 : Ref sig .tc := ⟨.hbm, 127, rfl⟩
abbrev main_call2_v0 : Ref sig .tc := ⟨.hbm, 128, rfl⟩
abbrev main_call2_v1 : Ref sig .tc := ⟨.hbm, 129, rfl⟩
abbrev main_v86 : Ref sig .tc := ⟨.hbm, 130, rfl⟩
abbrev main_cst_27 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_28 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_29 : Ref sig .tc := ⟨.hbm, 141, rfl⟩
abbrev main_cst_30 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99_0 : Ref sig .tc := ⟨.hbm, 152, rfl⟩
abbrev main_v99_1 : Ref sig .tc := ⟨.hbm, 153, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S5x1280x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x8192x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x1280x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x8192x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.Names.lean ====
/- The staging buffers of the kernel's windows at a grid point, and its scratch buffer. -/
module

public import proofs.«01_k».proof.Proof.Gen.Kernel.Frame
public import proofs.«01_k».proof.Proof.Gen.Kernel.Skeleton
public import Idealize.ShloMosaic.Lib.Ring
public import Idealize.ShloMosaic.Lib.Tactic
public import Idealize.ShloMosaic.Lib.WordCmp

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs -/

/-- One staging buffer of output window 5, through which its contents are stated (`View.read_writes_of_cover`: the
    choice does not matter). -/
abbrev VO0_5 : View sig .tc .vmem S1x128x2048 .f32 := (Memref.whole cc0_stg5_0 : Memref sig .tc .vmem S1x128x2048 .f32).view
/-- One staging buffer of output window 6, through which its contents are stated (`View.read_writes_of_cover`: the
    choice does not matter). -/
abbrev VO0_6 : View sig .tc .vmem S1x128x2048 .f32 := (Memref.whole cc0_stg6_0 : Memref sig .tc .vmem S1x128x2048 .f32).view
/-- One staging buffer of output window 7, through which its contents are stated (`View.read_writes_of_cover`: the
    choice does not matter). -/
abbrev VO0_7 : View sig .tc .vmem S1x128x2048 .f32 := (Memref.whole cc0_stg7_0 : Memref sig .tc .vmem S1x128x2048 .f32).view
/-- One staging buffer of output window 8, through which its contents are stated (`View.read_writes_of_cover`: the
    choice does not matter). -/
abbrev VO0_8 : View sig .tc .vmem S1x128x2048 .fp8e4m3 := (Memref.whole cc0_stg8_0 : Memref sig .tc .vmem S1x128x2048 .fp8e4m3).view
/-- One staging buffer of output window 9, through which its contents are stated (`View.read_writes_of_cover`: the
    choice does not matter). -/
abbrev VO0_9 : View sig .tc .vmem S1x16x128 .f32 := (Memref.whole cc0_stg9_0 : Memref sig .tc .vmem S1x16x128 .f32).view
/-- One staging buffer of output window 10, through which its contents are stated (`View.read_writes_of_cover`: the
    choice does not matter). -/
abbrev VO0_10 : View sig .tc .vmem S1x2048x128 .fp8e4m3 := (Memref.whole cc0_stg10_0 : Memref sig .tc .vmem S1x2048x128 .fp8e4m3).view
/-- One staging buffer of output window 11, through which its contents are stated (`View.read_writes_of_cover`: the
    choice does not matter). -/
abbrev VO0_11 : View sig .tc .vmem S1x10x2048 .f32 := (Memref.whole cc0_stg11_0 : Memref sig .tc .vmem S1x10x2048 .f32).view
/-- Each window's current staging memref at point `t`, spelled as the pipeline passes it (`bodyAt0`), and its wholeness. -/
abbrev ms0_0 (t : Fin cfg0.N) : Memref sig .tc .smem S3x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x2048 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x10x2048 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S128x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.Words.BodyRun.lean ====
/- The kernel's body run once, over whole staging buffers. -/
module

public import proofs.«01_k».proof.Proof.Words.Names

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    Σ' (L5 : List (View.Piece (Elt F) S1x128x2048 .f32)), Σ' (L6 : List (View.Piece (Elt F) S1x128x2048 .f32)), Σ' (L7 : List (View.Piece (Elt F) S1x128x2048 .f32)), Σ' (L8 : List (View.Piece (Elt F) S1x128x2048 .fp8e4m3)), Σ' (L9 : List (View.Piece (Elt F) S1x16x128 .f32)), Σ' (L10 : List (View.Piece (Elt F) S1x2048x128 .fp8e4m3)), { L11 : List (View.Piece (Elt F) S1x10x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x11 ∗ owns (c : Thread nD τ) arg15 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ d, owns (c : Thread nD τ) arg15 fullShare d)) -∗ K ⟨⟩))
          ⊢ wp frame (wpE (defs₀ (F := F)) Variants.none c none) E (cc0_adamw_cast i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_adamw_cast_eq_skeleton]; unfold cc0_adamw_cast_skel
    simp only [k0_part78_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg14.eq_unread hf11; obtain rfl := harg15.eq_unread hfs0
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _, _; isplitr; swap; · iexact HS0
    ipureintro; rfl

end Cert.Kernel.Body

end
-- ==== Proof.Words.Tile.lean ====
/- One 128x128 tile of the update and of its quantisation, as the kernel computes it: the vocabulary the
   stores of the body are stated in. -/
module

public import proofs.«01_k».proof.Proof.Gen.Kernel

@[expose] public section

set_option maxRecDepth 16384

noncomputable section

namespace Cert.Kernel.Tile

open Idealize.ShloMosaic Idealize.SL.Sem
open Cert.Kernel.Gen

variable {F : FTy → Type} [FloatOps F]

/-! ## The optimiser's update of a tile -/

/-- The gradient's tile in f32. -/
def grad (g : Vec F S1x128x128 .bf16) : FVec F S128x128 .f32 :=
  extf .f32 (shapeCast S128x128 g shapeCasts_S1x128x128_S128x128) bitsLt_bf16_f32

/-- The new first moment: `0.9 m + 0.1 g`. -/
def newM (g : Vec F S1x128x128 .bf16) (m : Vec F S1x128x128 .f32) : FVec F S128x128 .f32 :=
  addf (mulf (broadcast S128x128 (Scalar.ofBits .f32 0x3F666666#32)) (shapeCast S128x128 m shapeCasts_S1x128x128_S128x128))
    (mulf (broadcast S128x128 (Scalar.ofBits .f32 0x3DCCCCCD#32)) (grad g))

/-- The new second moment: `0.95 v + 0.05 g g`. -/
def newV (g : Vec F S1x128x128 .bf16) (v : Vec F S1x128x128 .f32) : FVec F S128x128 .f32 :=
  addf (mulf (broadcast S128x128 (Scalar.ofBits .f32 0x3F733333#32)) (shapeCast S128x128 v shapeCasts_S1x128x128_S128x128))
    (mulf (mulf (broadcast S128x128 (Scalar.ofBits .f32 0x3D4CCCCD#32)) (grad g)) (grad g))

/-- The new weights: `w c0 - c1 (m' / (sqrt v' c2 + eps))`, the three scalars those of the layer. -/
def newW (c0 c1 c2 : Elt F .f32) (w : Vec F S1x128x128 .f32) (g : Vec F S1x128x128 .bf16) (m v : Vec F S1x128x128 .f32) :
    FVec F S128x128 .f32 :=
  subf (mulf (shapeCast S128x128 w shapeCasts_S1x128x128_S128x128) (broadcast S128x128 c0))
    (mulf (broadcast S128x128 c1)
      (divf (newM g m)
        (addf (mulf (sqrt (newV g v)) (broadcast S128x128 c2)) (broadcast S128x128 (Scalar.ofBits .f32 0x322BCC77#32)))))

/-! ## The power-of-two scale of a group, from its largest magnitude -/

section Scale

variable {s : Shape}

/-- One step of the search for the exponent bits: add `k` if the float those bits spell is still at most `x`. -/
def step (x : FVec F s .f32) (k : BitVec 32) (b : IVec s 32) : IVec s 32 :=
  select (cmpf .oge x (bitcastToFloat .f32 (addi b (broadcast s k)))) (addi b (broadcast s k)) b

/-- The exponent bits of `x`. -/
def expBits (x : FVec F s .f32) : IVec s 32 :=
  step x 8388608#32 (step x 16777216#32 (step x 33554432#32 (step x 67108864#32
    (step x 134217728#32 (step x 268435456#32 (step x 536870912#32 (step x 1073741824#32 (broadcast s 0#32))))))))

/-- The exponent bits of `a / 448`, all ones when `a` is not finite. -/
def biased (a : FVec F s .f32) : IVec s 32 :=
  select (cmpf .ole a (broadcast s (Scalar.ofBits .f32 0x7F7FFFFF#32)))
    (expBits (mulf a (broadcast s (Scalar.ofBits .f32 0x3B124925#32)))) (broadcast s 2139095040#32)

/-- The same, those of 1/2 where the field is zero or all ones. -/
def word (a : FVec F s .f32) : IVec s 32 :=
  select (andi (cmpi .ne (biased a) (broadcast s 0#32)) (cmpi .ne (biased a) (broadcast s 2139095040#32)))
    (biased a) (broadcast s 1056964608#32)

/-- The scale of a group: a power of two. -/
def scale (a : FVec F s .f32) : FVec F s .f32 := bitcastToFloat .f32 (addi (word a) (broadcast s 8388608#32))

/-- The scale's reciprocal. -/
def inv (a : FVec F s .f32) : FVec F s .f32 := bitcastToFloat .f32 (subi (broadcast s 2122317824#32) (word a))

end Scale

/-! ## The quantised tile -/

/-- The largest magnitude of each row of the tile. -/
def amaxRow (w : FVec F S128x128 .f32) : FVec F S128x1 .f32 :=
  shapeCast S128x1 (multiReduction .maximumf [1] S128 (absf w) 0xFF800000#32 reduces_S128x128_S128 (.inl rfl) rfl) shapeCasts_S128_S128x1

/-- The largest magnitude of each column of the tile. -/
def amaxCol (w : FVec F S128x128 .f32) : FVec F S1x128 .f32 :=
  shapeCast S1x128 (multiReduction .maximumf [0] S128 (absf w) 0xFF800000#32 reduces_S128x128_S128_2 (.inl rfl) rfl) shapeCasts_S128_S1x128

/-- Clipped to +-448 and cast to f8. -/
def cast (q : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32)) q)) bitsLt_fp8e4m3_f32

/-- The codes of the tile, each row by its own scale. -/
def codes (w : FVec F S128x128 .f32) : FVec F S128x128 .fp8e4m3 :=
  cast (mulf w (broadcastTo S128x128 (inv (amaxRow w)) broadcasts_S128x1_S128x128))

/-- The codes of the tile transposed, each column of it by its own scale. -/
def codesT (w : FVec F S128x128 .f32) : FVec F S128x128 .fp8e4m3 :=
  transpose S128x128 [1, 0] (cast (mulf w (broadcastTo S128x128 (inv (amaxCol w)) broadcasts_S1x128_S128x128)))
    transposes_S128x128_p1_0_S128x128

/-- The column scales' block after the tile: the rows from `r` on at the tile's column scales, the others as they were. -/
def scalesT (r : BitVec 32) (w : FVec F S128x128 .f32) (before : Vec F S1x10x128 .f32) : FVec F S10x128 .f32 :=
  select (cmpi .sge (iota .tc S10x128 32 [0] iota_S10x128_d0_w32) (broadcast S10x128 r))
    (broadcastTo S10x128 (shapeCast S1x128 (scale (amaxCol w)) shapeCasts_S1x128_S1x128) broadcasts_S1x128_S10x128)
    (shapeCast S10x128 before shapeCasts_S1x10x128_S10x128)

/-- The row scales, from the rows' magnitudes one column per tile. -/
def scales (a : Vec F S128x128 .f32) : FVec F S16x128 .f32 :=
  scale (extractStridedSlice S16x128 ![0, 0] (transpose S128x128 [1, 0] a transposes_S128x128_p1_0_S128x128) slices_S128x128_o0_0_S16x128)

end Cert.Kernel.Tile

end
-- ==== Proof.Words.Pieces.lean ====
/- What the body stores in each output, in the vocabulary of Tile: one piece per group of 128 columns. -/
module

public import proofs.«01_k».proof.Proof.Words.BodyRun
public import proofs.«01_k».proof.Proof.Words.Tile

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The column groups, last first. -/
def cols : List (Fin 16) := [15, 14, 13, 12, 11, 10, 9, 8, 7, 6, 5, 4, 3, 2, 1, 0]

theorem mem_cols (j : Fin 16) : j ∈ cols := by revert j; decide

/-- Column group `j` of a block of 2048 columns. -/
abbrev rect (j : Fin 16) : Rect S1x128x2048 :=
  Rect.unit ![0, 0, 128 * j.val] S1x128x128.size (by
    intro a; fin_cases a <;> simp [S1x128x2048, S1x128x128] <;> omega)

/-- Row group `j` of the transposed codes' block of 2048 rows. -/
abbrev rectT (j : Fin 16) : Rect S1x2048x128 :=
  Rect.unit ![0, 128 * j.val, 0] S1x128x128.size (by
    intro a; fin_cases a <;> simp [S1x2048x128, S1x128x128] <;> omega)

/-- Column group `j` of the column scales' block. -/
abbrev rectS (j : Fin 16) : Rect S1x10x2048 :=
  Rect.unit ![0, 0, 128 * j.val] S1x10x128.size (by
    intro a; fin_cases a <;> simp [S1x10x2048, S1x10x128] <;> omega)

/-- Column `j` of the scratch. -/
abbrev rectA (j : Fin 16) : Rect S128x128 :=
  Rect.unit ![0, j.val] S128x1.size (by
    intro a; fin_cases a <;> simp [S128x128, S128x1] <;> omega)

/-- The load of column group `j` of a block. -/
def ld {e : EltTy} (arg : Memref sig .tc .vmem S1x128x2048 e) (harg : arg.IsWhole) (x : Vec F S1x128x2048 e) (j : Fin 16) :
    Vec F S1x128x128 e :=
  View.readAt (Elt F) arg.view (rect j).toLoadRect (harg.unread x)

/-- A scalar of the layer. -/
def scal (arg3 : Memref sig .tc .smem S3x5 .f32) (harg3 : arg3.IsWhole) (x0 : Vec F S3x5 .f32) (off : Fin 2 → ℕ)
    (h : ∀ a, off a + S1x1.size a ≤ S3x5.size a) : Elt F .f32 :=
  View.readAt (Elt F) arg3.view (Rect.unit (s := S3x5) off S1x1.size h).toLoadRect (harg3.unread x0) (Shape.Idx.first (by show 0 < S1x1.numel; rw [numel1_S1x1]; exact Nat.one_pos))

/-- The new weights of column group `j`. -/
def tileW (i : grid0.Coords) (arg3 : Memref sig .tc .smem S3x5 .f32) (harg3 : arg3.IsWhole) (arg4 : Memref sig .tc .vmem S1x128x2048 .f32) (harg4 : arg4.IsWhole)
    (arg5 : Memref sig .tc .vmem S1x128x2048 .bf16) (harg5 : arg5.IsWhole) (arg6 : Memref sig .tc .vmem S1x128x2048 .f32) (harg6 : arg6.IsWhole)
    (arg7 : Memref sig .tc .vmem S1x128x2048 .f32) (harg7 : arg7.IsWhole) (x0 : Vec F S3x5 .f32) (x1 : Vec F S1x128x2048 .f32) (x2 : Vec F S1x128x2048 .bf16)
    (x3 : Vec F S1x128x2048 .f32) (x4 : Vec F S1x128x2048 .f32) (j : Fin 16) : FVec F S128x128 .f32 :=
  Tile.newW (scal arg3 harg3 x0 (k0_off1 i) (k0_off1_inb i)) (scal arg3 harg3 x0 (k0_off2 i) (k0_off2_inb i))
    (scal arg3 harg3 x0 (k0_off3 i) (k0_off3_inb i)) (ld arg4 harg4 x1 j) (ld arg5 harg5 x2 j) (ld arg6 harg6 x3 j) (ld arg7 harg7 x4 j)

/-- The stores of the new weights. -/
theorem pieces5 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).1 = cols.map fun j => ⟨rect j, shapeCast S1x128x128 (tileW i arg3 harg3 arg4 harg4 arg5 harg5 arg6 harg6 arg7 harg7 x0 x1 x2 x3 x4 j) shapeCasts_S128x128_S1x128x128⟩ := by
  sl_kernel_rfl

/-- The stores of the new first moment. -/
theorem pieces6 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.1 = cols.map fun j => ⟨rect j, shapeCast S1x128x128 (Tile.newM (ld arg5 harg5 x2 j) (ld arg6 harg6 x3 j)) shapeCasts_S128x128_S1x128x128⟩ := by
  sl_kernel_rfl

/-- The stores of the new second moment. -/
theorem pieces7 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.1 = cols.map fun j => ⟨rect j, shapeCast S1x128x128 (Tile.newV (ld arg5 harg5 x2 j) (ld arg7 harg7 x4 j)) shapeCasts_S128x128_S1x128x128⟩ := by
  sl_kernel_rfl

/-- The stores of the codes. -/
theorem pieces8 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.1 = cols.map fun j => ⟨rect j, shapeCast S1x128x128 (Tile.codes (tileW i arg3 harg3 arg4 harg4 arg5 harg5 arg6 harg6 arg7 harg7 x0 x1 x2 x3 x4 j)) shapeCasts_S128x128_S1x128x128⟩ := by
  sl_kernel_rfl

/-- The stores of the rows' magnitudes in the scratch. -/
def amaxPieces (i : grid0.Coords) (arg3 : Memref sig .tc .smem S3x5 .f32) (harg3 : arg3.IsWhole) (arg4 : Memref sig .tc .vmem S1x128x2048 .f32) (harg4 : arg4.IsWhole)
    (arg5 : Memref sig .tc .vmem S1x128x2048 .bf16) (harg5 : arg5.IsWhole) (arg6 : Memref sig .tc .vmem S1x128x2048 .f32) (harg6 : arg6.IsWhole)
    (arg7 : Memref sig .tc .vmem S1x128x2048 .f32) (harg7 : arg7.IsWhole) (x0 : Vec F S3x5 .f32) (x1 : Vec F S1x128x2048 .f32) (x2 : Vec F S1x128x2048 .bf16)
    (x3 : Vec F S1x128x2048 .f32) (x4 : Vec F S1x128x2048 .f32) : List (View.Piece (Elt F) S128x128 .f32) :=
  cols.map fun j => ⟨rectA j, shapeCast S128x1 (Tile.amaxRow (tileW i arg3 harg3 arg4 harg4 arg5 harg5 arg6 harg6 arg7 harg7 x0 x1 x2 x3 x4 j)) shapeCasts_S128x1_S128x1⟩

/-- The one store of the row scales, from the scratch as those stores leave it. -/
theorem pieces9 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.1 = [⟨Rect.unit ![0, 0, 0] S1x16x128.size inb_S1x16x128_S1x16x128_0_0_0,
      shapeCast S1x16x128 (Tile.scales
        (View.readAt (Elt F) arg15.view (Rect.unit ![0, 0] S128x128.size inb_S128x128_S128x128_0_0).toLoadRect
          (arg15.view.writes (Elt F) (harg15.unread xs)
            (amaxPieces i arg3 harg3 arg4 harg4 arg5 harg5 arg6 harg6 arg7 harg7 x0 x1 x2 x3 x4)))) shapeCasts_S16x128_S1x16x128⟩] := by
  sl_kernel_rfl

/-- The stores of the transposed codes. -/
theorem pieces10 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.2.1 = cols.map fun j => ⟨rectT j, shapeCast S1x128x128 (Tile.codesT (tileW i arg3 harg3 arg4 harg4 arg5 harg5 arg6 harg6 arg7 harg7 x0 x1 x2 x3 x4 j)) shapeCasts_S128x128_S1x128x128⟩ := by
  sl_kernel_rfl

/-- The stores of the column scales. -/
theorem pieces11 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.2.2.1 = cols.map fun j => ⟨rectS j, shapeCast S1x10x128 (Tile.scalesT (BitVec.ofNat 32 (i 2).val) (tileW i arg3 harg3 arg4 harg4 arg5 harg5 arg6 harg6 arg7 harg7 x0 x1 x2 x3 x4 j)
      (View.readAt (Elt F) arg14.view (rectS j).toLoadRect (harg14.unread x11))) shapeCasts_S10x128_S1x10x128⟩ := by
  sl_kernel_rfl

end Cert.Kernel.Body

end
-- ==== Proof.Words.Blocks.lean ====
/- What the body leaves in each output block, as a function of the blocks it is given: no memory in it. -/
module

public import proofs.«01_k».proof.Proof.Words.Pieces
public import Idealize.ShloMosaic.Lib.WholeRead
public import Idealize.ShloMosaic.Lib.Pointwise
public import Idealize.ShloMosaic.Lib.Pipeline.ValueKit

@[expose] public section

set_option maxRecDepth 16384

noncomputable section

namespace Cert.Kernel.Block

open Idealize.ShloMosaic Idealize.ShloMosaic.TcCoe Idealize.ShloMosaic.Tactic
open Idealize.SL.Sem
open Cert.Kernel.Gen Cert.Kernel Cert.Kernel.Body

variable {F : FTy → Type} [FloatOps F]

/-! ## Tiles of a block -/

/-- Column group `j` of a block of 2048 columns. -/
def sub {α : Type} (x : S1x128x2048.Idx → α) (j : Fin 16) : S1x128x128.Idx → α := fun y => x ((rect j).toLoadRect.idx y)

/-- Column group `j` of a block of the column scales. -/
def subS {α : Type} (x : S1x10x2048.Idx → α) (j : Fin 16) : S1x10x128.Idx → α := fun y => x ((rectS j).toLoadRect.idx y)

/-- The entry of the scalars' table at an offset. -/
def sc (x0 : Vec F S3x5 .f32) (off : Fin 2 → ℕ) (h : ∀ a, off a + S1x1.size a ≤ S3x5.size a) : Elt F .f32 :=
  x0 ((Rect.unit (s := S3x5) off S1x1.size h).toLoadRect.idx (Shape.Idx.first (by show 0 < S1x1.numel; rw [numel1_S1x1]; exact Nat.one_pos)))

/-- The block whose column group `j` is `P j`. -/
def assemble {α : Type} (P : Fin 16 → S1x128x128.Idx → α) : S1x128x2048.Idx → α := fun y =>
  P ⟨(y 2).val / 128, by have : (y 2).val < 2048 := (y 2).isLt; omega⟩ (ix3 0 (y 1) ⟨(y 2).val % 128, Nat.mod_lt _ (by decide)⟩)

/-- The block whose row group `j` is `P j`. -/
def assembleT {α : Type} (P : Fin 16 → S1x128x128.Idx → α) : S1x2048x128.Idx → α := fun y =>
  P ⟨(y 1).val / 128, by have : (y 1).val < 2048 := (y 1).isLt; omega⟩ (ix3 0 ⟨(y 1).val % 128, Nat.mod_lt _ (by decide)⟩ (y 2))

/-- The block of column scales whose column group `j` is `P j`. -/
def assembleS {α : Type} (P : Fin 16 → S1x10x128.Idx → α) : S1x10x2048.Idx → α := fun y =>
  P ⟨(y 2).val / 128, by have : (y 2).val < 2048 := (y 2).isLt; omega⟩ (ix3 0 (y 1) ⟨(y 2).val % 128, Nat.mod_lt _ (by decide)⟩)

theorem fin1_eq {n : Nat} (h : n = 1) (a b : Fin n) : a = b := by subst h; exact Subsingleton.elim a b

/-- Stores that fill a block column group by column group leave the assembled block. -/
theorem canon_cols {e : EltTy} (P : Fin 16 → S1x128x128.Idx → Elt F e) :
    View.canon (Val := Elt F) (cols.map fun j => (⟨rect j, P j⟩ : View.Piece (Elt F) S1x128x2048 e)) = assemble P := by
  funext y
  refine View.canon_apply_of_pieces (assemble P) _ ?_ y ?_
  · intro p hp x
    obtain ⟨j, -, rfl⟩ := List.mem_map.1 hp
    have hx : (x 2).val < 128 := (x 2).isLt
    have e1 : (((rect j).emb x) 2).val = 128 * j.val + (x 2).val := Rect.idx_unit_val _ _ _ x 2
    have e2 : (((rect j).emb x) 1).val = 0 + (x 1).val := Rect.idx_unit_val _ _ _ x 1
    unfold assemble
    have hj : (⟨(((rect j).emb x) 2).val / 128, by have : (((rect j).emb x) 2).val < 2048 := (((rect j).emb x) 2).isLt; omega⟩ : Fin 16) = j := by
      apply Fin.ext; show (((rect j).emb x) 2).val / 128 = j.val; omega
    have hl : (ix3 0 (((rect j).emb x) 1) ⟨(((rect j).emb x) 2).val % 128, Nat.mod_lt _ (by decide)⟩ : S1x128x128.Idx) = x := by
      funext a
      match a with
      | ⟨0, _⟩ => exact fin1_eq rfl _ _
      | ⟨1, _⟩ => apply Fin.ext; show (((rect j).emb x) 1).val = (x 1).val; omega
      | ⟨2, _⟩ => apply Fin.ext; show (((rect j).emb x) 2).val % 128 = (x 2).val; omega
    show P j x = P _ _
    rw [hj]
    exact congrArg (P j) hl.symm
  · have hy : (y 2).val < 2048 := (y 2).isLt
    refine ⟨_, List.mem_map.2 ⟨⟨(y 2).val / 128, by omega⟩, mem_cols _, rfl⟩, ?_⟩
    show y ∈ (rect ⟨(y 2).val / 128, by omega⟩).set
    rw [Rect.mem_set_unit]
    intro a
    have h0 : (y 0).val < 1 := (y 0).isLt
    have h1 : (y 1).val < 128 := (y 1).isLt
    match a with
    | ⟨0, _⟩ => exact ⟨Nat.zero_le _, by show (y 0).val < 0 + 1; omega⟩
    | ⟨1, _⟩ => exact ⟨Nat.zero_le _, by show (y 1).val < 0 + 128; omega⟩
    | ⟨2, _⟩ => exact ⟨by show 128 * ((y 2).val / 128) ≤ (y 2).val; omega, by show (y 2).val < 128 * ((y 2).val / 128) + 128; omega⟩

/-- They leave it whatever the buffer held. -/
theorem read_cols {e : EltTy} (v : View sig .tc .vmem S1x128x2048 e) (f : v.ty.Contents (Elt F))
    (P : Fin 16 → S1x128x128.Idx → Elt F e) :
    v.read (Elt F) (v.writes (Elt F) f (cols.map fun j => (⟨rect j, P j⟩ : View.Piece (Elt F) S1x128x2048 e))) = assemble P := by
  rw [View.read_writes_eq_canon, canon_cols]
  intro y
  have hy : (y 2).val < 2048 := (y 2).isLt
  refine ⟨_, List.mem_map.2 ⟨⟨(y 2).val / 128, by omega⟩, mem_cols _, rfl⟩, ?_⟩
  show y ∈ (rect ⟨(y 2).val / 128, by omega⟩).set
  rw [Rect.mem_set_unit]
  intro a
  have h0 : (y 0).val < 1 := (y 0).isLt
  have h1 : (y 1).val < 128 := (y 1).isLt
  match a with
  | ⟨0, _⟩ => exact ⟨Nat.zero_le _, by show (y 0).val < 0 + 1; omega⟩
  | ⟨1, _⟩ => exact ⟨Nat.zero_le _, by show (y 1).val < 0 + 128; omega⟩
  | ⟨2, _⟩ => exact ⟨by show 128 * ((y 2).val / 128) ≤ (y 2).val; omega, by show (y 2).val < 128 * ((y 2).val / 128) + 128; omega⟩

/-- Stores that fill a block row group by row group leave the assembled block. -/
theorem canon_rows {e : EltTy} (P : Fin 16 → S1x128x128.Idx → Elt F e) :
    View.canon (Val := Elt F) (cols.map fun j => (⟨rectT j, P j⟩ : View.Piece (Elt F) S1x2048x128 e)) = assembleT P := by
  funext y
  refine View.canon_apply_of_pieces (assembleT P) _ ?_ y ?_
  · intro p hp x
    obtain ⟨j, -, rfl⟩ := List.mem_map.1 hp
    have hx : (x 1).val < 128 := (x 1).isLt
    have e1 : (((rectT j).emb x) 1).val = 128 * j.val + (x 1).val := Rect.idx_unit_val _ _ _ x 1
    have e2 : (((rectT j).emb x) 2).val = 0 + (x 2).val := Rect.idx_unit_val _ _ _ x 2
    unfold assembleT
    have hj : (⟨(((rectT j).emb x) 1).val / 128, by have : (((rectT j).emb x) 1).val < 2048 := (((rectT j).emb x) 1).isLt; omega⟩ : Fin 16) = j := by
      apply Fin.ext; show (((rectT j).emb x) 1).val / 128 = j.val; omega
    have hl : (ix3 0 ⟨(((rectT j).emb x) 1).val % 128, Nat.mod_lt _ (by decide)⟩ (((rectT j).emb x) 2) : S1x128x128.Idx) = x := by
      funext a
      match a with
      | ⟨0, _⟩ => exact fin1_eq rfl _ _
      | ⟨1, _⟩ => apply Fin.ext; show (((rectT j).emb x) 1).val % 128 = (x 1).val; omega
      | ⟨2, _⟩ => apply Fin.ext; show (((rectT j).emb x) 2).val = (x 2).val; omega
    show P j x = P _ _
    rw [hj]
    exact congrArg (P j) hl.symm
  · have hy : (y 1).val < 2048 := (y 1).isLt
    refine ⟨_, List.mem_map.2 ⟨⟨(y 1).val / 128, by omega⟩, mem_cols _, rfl⟩, ?_⟩
    show y ∈ (rectT ⟨(y 1).val / 128, by omega⟩).set
    rw [Rect.mem_set_unit]
    intro a
    have h0 : (y 0).val < 1 := (y 0).isLt
    have h1 : (y 2).val < 128 := (y 2).isLt
    match a with
    | ⟨0, _⟩ => exact ⟨Nat.zero_le _, by show (y 0).val < 0 + 1; omega⟩
    | ⟨1, _⟩ => exact ⟨by show 128 * ((y 1).val / 128) ≤ (y 1).val; omega, by show (y 1).val < 128 * ((y 1).val / 128) + 128; omega⟩
    | ⟨2, _⟩ => exact ⟨Nat.zero_le _, by show (y 2).val < 0 + 128; omega⟩

/-- They leave it whatever the buffer held. -/
theorem read_rows {e : EltTy} (v : View sig .tc .vmem S1x2048x128 e) (f : v.ty.Contents (Elt F))
    (P : Fin 16 → S1x128x128.Idx → Elt F e) :
    v.read (Elt F) (v.writes (Elt F) f (cols.map fun j => (⟨rectT j, P j⟩ : View.Piece (Elt F) S1x2048x128 e))) = assembleT P := by
  rw [View.read_writes_eq_canon, canon_rows]
  intro y
  have hy : (y 1).val < 2048 := (y 1).isLt
  refine ⟨_, List.mem_map.2 ⟨⟨(y 1).val / 128, by omega⟩, mem_cols _, rfl⟩, ?_⟩
  show y ∈ (rectT ⟨(y 1).val / 128, by omega⟩).set
  rw [Rect.mem_set_unit]
  intro a
  have h0 : (y 0).val < 1 := (y 0).isLt
  have h1 : (y 2).val < 128 := (y 2).isLt
  match a with
  | ⟨0, _⟩ => exact ⟨Nat.zero_le _, by show (y 0).val < 0 + 1; omega⟩
  | ⟨1, _⟩ => exact ⟨by show 128 * ((y 1).val / 128) ≤ (y 1).val; omega, by show (y 1).val < 128 * ((y 1).val / 128) + 128; omega⟩
  | ⟨2, _⟩ => exact ⟨Nat.zero_le _, by show (y 2).val < 0 + 128; omega⟩

/-- Stores that fill the column scales' block column group by column group leave the assembled block. -/
theorem canon_scales {e : EltTy} (P : Fin 16 → S1x10x128.Idx → Elt F e) :
    View.canon (Val := Elt F) (cols.map fun j => (⟨rectS j, P j⟩ : View.Piece (Elt F) S1x10x2048 e)) = assembleS P := by
  funext y
  refine View.canon_apply_of_pieces (assembleS P) _ ?_ y ?_
  · intro p hp x
    obtain ⟨j, -, rfl⟩ := List.mem_map.1 hp
    have hx : (x 2).val < 128 := (x 2).isLt
    have e1 : (((rectS j).emb x) 2).val = 128 * j.val + (x 2).val := Rect.idx_unit_val _ _ _ x 2
    have e2 : (((rectS j).emb x) 1).val = 0 + (x 1).val := Rect.idx_unit_val _ _ _ x 1
    unfold assembleS
    have hj : (⟨(((rectS j).emb x) 2).val / 128, by have : (((rectS j).emb x) 2).val < 2048 := (((rectS j).emb x) 2).isLt; omega⟩ : Fin 16) = j := by
      apply Fin.ext; show (((rectS j).emb x) 2).val / 128 = j.val; omega
    have hl : (ix3 0 (((rectS j).emb x) 1) ⟨(((rectS j).emb x) 2).val % 128, Nat.mod_lt _ (by decide)⟩ : S1x10x128.Idx) = x := by
      funext a
      match a with
      | ⟨0, _⟩ => exact fin1_eq rfl _ _
      | ⟨1, _⟩ => apply Fin.ext; show (((rectS j).emb x) 1).val = (x 1).val; omega
      | ⟨2, _⟩ => apply Fin.ext; show (((rectS j).emb x) 2).val % 128 = (x 2).val; omega
    show P j x = P _ _
    rw [hj]
    exact congrArg (P j) hl.symm
  · have hy : (y 2).val < 2048 := (y 2).isLt
    refine ⟨_, List.mem_map.2 ⟨⟨(y 2).val / 128, by omega⟩, mem_cols _, rfl⟩, ?_⟩
    show y ∈ (rectS ⟨(y 2).val / 128, by omega⟩).set
    rw [Rect.mem_set_unit]
    intro a
    have h0 : (y 0).val < 1 := (y 0).isLt
    have h1 : (y 1).val < 10 := (y 1).isLt
    match a with
    | ⟨0, _⟩ => exact ⟨Nat.zero_le _, by show (y 0).val < 0 + 1; omega⟩
    | ⟨1, _⟩ => exact ⟨Nat.zero_le _, by show (y 1).val < 0 + 10; omega⟩
    | ⟨2, _⟩ => exact ⟨by show 128 * ((y 2).val / 128) ≤ (y 2).val; omega, by show (y 2).val < 128 * ((y 2).val / 128) + 128; omega⟩

/-- They leave it whatever the buffer held. -/
theorem read_scales {e : EltTy} (v : View sig .tc .vmem S1x10x2048 e) (f : v.ty.Contents (Elt F))
    (P : Fin 16 → S1x10x128.Idx → Elt F e) :
    v.read (Elt F) (v.writes (Elt F) f (cols.map fun j => (⟨rectS j, P j⟩ : View.Piece (Elt F) S1x10x2048 e))) = assembleS P := by
  rw [View.read_writes_eq_canon, canon_scales]
  intro y
  have hy : (y 2).val < 2048 := (y 2).isLt
  refine ⟨_, List.mem_map.2 ⟨⟨(y 2).val / 128, by omega⟩, mem_cols _, rfl⟩, ?_⟩
  show y ∈ (rectS ⟨(y 2).val / 128, by omega⟩).set
  rw [Rect.mem_set_unit]
  intro a
  have h0 : (y 0).val < 1 := (y 0).isLt
  have h1 : (y 1).val < 10 := (y 1).isLt
  match a with
  | ⟨0, _⟩ => exact ⟨Nat.zero_le _, by show (y 0).val < 0 + 1; omega⟩
  | ⟨1, _⟩ => exact ⟨Nat.zero_le _, by show (y 1).val < 0 + 10; omega⟩
  | ⟨2, _⟩ => exact ⟨by show 128 * ((y 2).val / 128) ≤ (y 2).val; omega, by show (y 2).val < 128 * ((y 2).val / 128) + 128; omega⟩

/-! ## What each output block holds after the body -/

/-- The new weights of column group `j`. -/
def wt (i : grid0.Coords) (x0 : Vec F S3x5 .f32) (x1 : Vec F S1x128x2048 .f32) (x2 : Vec F S1x128x2048 .bf16) (x3 x4 : Vec F S1x128x2048 .f32) (j : Fin 16) : FVec F S128x128 .f32 :=
  Tile.newW (sc x0 (k0_off1 i) (k0_off1_inb i)) (sc x0 (k0_off2 i) (k0_off2_inb i)) (sc x0 (k0_off3 i) (k0_off3_inb i))
    (sub x1 j) (sub x2 j) (sub x3 j) (sub x4 j)

/-- The block of new weights. -/
def out5 (i : grid0.Coords) (x0 : Vec F S3x5 .f32) (x1 : Vec F S1x128x2048 .f32) (x2 : Vec F S1x128x2048 .bf16) (x3 x4 : Vec F S1x128x2048 .f32) : Vec F S1x128x2048 .f32 :=
  assemble fun j => shapeCast S1x128x128 (wt i x0 x1 x2 x3 x4 j) shapeCasts_S128x128_S1x128x128

/-- The block of new first moments. -/
def out6 (x2 : Vec F S1x128x2048 .bf16) (x3 : Vec F S1x128x2048 .f32) : Vec F S1x128x2048 .f32 :=
  assemble fun j => shapeCast S1x128x128 (Tile.newM (sub x2 j) (sub x3 j)) shapeCasts_S128x128_S1x128x128

/-- The block of new second moments. -/
def out7 (x2 : Vec F S1x128x2048 .bf16) (x4 : Vec F S1x128x2048 .f32) : Vec F S1x128x2048 .f32 :=
  assemble fun j => shapeCast S1x128x128 (Tile.newV (sub x2 j) (sub x4 j)) shapeCasts_S128x128_S1x128x128

/-- The block of codes. -/
def out8 (i : grid0.Coords) (x0 : Vec F S3x5 .f32) (x1 : Vec F S1x128x2048 .f32) (x2 : Vec F S1x128x2048 .bf16) (x3 x4 : Vec F S1x128x2048 .f32) : Vec F S1x128x2048 .fp8e4m3 :=
  assemble fun j => shapeCast S1x128x128 (Tile.codes (wt i x0 x1 x2 x3 x4 j)) shapeCasts_S128x128_S1x128x128

/-- The rows' magnitudes, column `j` those of column group `j` (the scratch has 128 columns; only the first 16 are read). -/
def amax (i : grid0.Coords) (x0 : Vec F S3x5 .f32) (x1 : Vec F S1x128x2048 .f32) (x2 : Vec F S1x128x2048 .bf16) (x3 x4 : Vec F S1x128x2048 .f32) : Vec F S128x128 .f32 := fun y =>
  Tile.amaxRow (wt i x0 x1 x2 x3 x4 ⟨(y 1).val % 16, Nat.mod_lt _ (by decide)⟩) (ix2 (y 0) 0)

/-- The block of row scales. -/
def out9 (i : grid0.Coords) (x0 : Vec F S3x5 .f32) (x1 : Vec F S1x128x2048 .f32) (x2 : Vec F S1x128x2048 .bf16) (x3 x4 : Vec F S1x128x2048 .f32) : Vec F S1x16x128 .f32 :=
  shapeCast S1x16x128 (Tile.scales (amax i x0 x1 x2 x3 x4)) shapeCasts_S16x128_S1x16x128

/-- The block of transposed codes. -/
def out10 (i : grid0.Coords) (x0 : Vec F S3x5 .f32) (x1 : Vec F S1x128x2048 .f32) (x2 : Vec F S1x128x2048 .bf16) (x3 x4 : Vec F S1x128x2048 .f32) : Vec F S1x2048x128 .fp8e4m3 :=
  assembleT fun j => shapeCast S1x128x128 (Tile.codesT (wt i x0 x1 x2 x3 x4 j)) shapeCasts_S128x128_S1x128x128

/-- The block of column scales, from what it held before. -/
def out11 (i : grid0.Coords) (x0 : Vec F S3x5 .f32) (x1 : Vec F S1x128x2048 .f32) (x2 : Vec F S1x128x2048 .bf16) (x3 x4 : Vec F S1x128x2048 .f32) (x11 : Vec F S1x10x2048 .f32) : Vec F S1x10x2048 .f32 :=
  assembleS fun j => shapeCast S1x10x128 (Tile.scalesT (BitVec.ofNat 32 (i 2).val) (wt i x0 x1 x2 x3 x4 j) (subS x11 j)) shapeCasts_S10x128_S1x10x128

/-! ## The run's stores, read back -/

theorem ld_eq {e : EltTy} (arg : Memref sig .tc .vmem S1x128x2048 e) (harg : arg.IsWhole) (x : Vec F S1x128x2048 e) (j : Fin 16) :
    ld arg harg x j = sub x j := funext fun y => harg.readAt_unread _ _ _

theorem scal_eq (arg3 : Memref sig .tc .smem S3x5 .f32) (harg3 : arg3.IsWhole) (x0 : Vec F S3x5 .f32) (off : Fin 2 → ℕ)
    (h : ∀ a, off a + S1x1.size a ≤ S3x5.size a) : scal arg3 harg3 x0 off h = sc x0 off h := harg3.readAt_unread _ _ _

theorem tileW_eq (i : grid0.Coords) (arg3 : Memref sig .tc .smem S3x5 .f32) (harg3 : arg3.IsWhole) (arg4 : Memref sig .tc .vmem S1x128x2048 .f32) (harg4 : arg4.IsWhole)
    (arg5 : Memref sig .tc .vmem S1x128x2048 .bf16) (harg5 : arg5.IsWhole) (arg6 : Memref sig .tc .vmem S1x128x2048 .f32) (harg6 : arg6.IsWhole)
    (arg7 : Memref sig .tc .vmem S1x128x2048 .f32) (harg7 : arg7.IsWhole) (x0 : Vec F S3x5 .f32) (x1 : Vec F S1x128x2048 .f32) (x2 : Vec F S1x128x2048 .bf16)
    (x3 : Vec F S1x128x2048 .f32) (x4 : Vec F S1x128x2048 .f32) (j : Fin 16) :
    tileW i arg3 harg3 arg4 harg4 arg5 harg5 arg6 harg6 arg7 harg7 x0 x1 x2 x3 x4 j = wt i x0 x1 x2 x3 x4 j := by
  unfold tileW wt
  rw [scal_eq, scal_eq, scal_eq, ld_eq, ld_eq, ld_eq, ld_eq]

/-- The row scales depend on the scratch's first 16 columns alone. -/
theorem scales_congr (a b : Vec F S128x128 .f32) (h : ∀ y : S128x128.Idx, (y 1).val < 16 → a y = b y) : Tile.scales a = Tile.scales b := by
  have e : (extractStridedSlice S16x128 ![0, 0] (transpose S128x128 [1, 0] a transposes_S128x128_p1_0_S128x128) slices_S128x128_o0_0_S16x128)
      = extractStridedSlice S16x128 ![0, 0] (transpose S128x128 [1, 0] b transposes_S128x128_p1_0_S128x128) slices_S128x128_o0_0_S16x128 := by
    funext y
    have hy : (y 0).val < 16 := (y 0).isLt
    pointwise
    exact h _ (by simpa using hy)
  unfold Tile.scales
  rw [e]

theorem read5 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg8.view.ty.Contents (Elt F)) :
    arg8.view.read (Elt F) (arg8.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).1) = out5 i x0 x1 x2 x3 x4 := by
  rw [pieces5, read_cols]
  simp only [tileW_eq]; rfl

theorem read6 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg9.view.ty.Contents (Elt F)) :
    arg9.view.read (Elt F) (arg9.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.1) = out6 x2 x3 := by
  rw [pieces6, read_cols]
  simp only [ld_eq]; rfl

theorem read7 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg10.view.ty.Contents (Elt F)) :
    arg10.view.read (Elt F) (arg10.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.1) = out7 x2 x4 := by
  rw [pieces7, read_cols]
  simp only [ld_eq]; rfl

theorem read8 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg11.view.ty.Contents (Elt F)) :
    arg11.view.read (Elt F) (arg11.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.1) = out8 i x0 x1 x2 x3 x4 := by
  rw [pieces8, read_cols]
  simp only [tileW_eq]; rfl

theorem read10 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg13.view.ty.Contents (Elt F)) :
    arg13.view.read (Elt F) (arg13.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.2.1) = out10 i x0 x1 x2 x3 x4 := by
  rw [pieces10, read_rows]
  simp only [tileW_eq]; rfl

theorem read11 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg14.view.ty.Contents (Elt F)) :
    arg14.view.read (Elt F) (arg14.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.2.2.1) = out11 i x0 x1 x2 x3 x4 x11 := by
  rw [pieces11, read_scales]
  simp only [tileW_eq]
  unfold out11
  refine congrArg assembleS (funext fun j => ?_)
  have e : View.readAt (Elt F) arg14.view (rectS j).toLoadRect (harg14.unread x11) = subS x11 j := funext fun y => harg14.readAt_unread _ _ _
  rw [e]

theorem read9 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg12.view.ty.Contents (Elt F)) :
    arg12.view.read (Elt F) (arg12.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.1) = out9 i x0 x1 x2 x3 x4 := by
  rw [pieces9, View.read_writes_eq_canon, View.canon_unit_zero]
  · unfold out9
    refine congrArg (fun a => shapeCast S1x16x128 a shapeCasts_S16x128_S1x16x128) (scales_congr _ _ fun y hy => ?_)
    have ez : (Rect.unit ![0, 0] S128x128.size inb_S128x128_S128x128_0_0).toLoadRect.idx y = y := by
      funext a
      refine Fin.ext ((Rect.idx_unit_val _ _ _ y a).trans ?_)
      match a with
      | ⟨0, _⟩ => exact Nat.zero_add _
      | ⟨1, _⟩ => exact Nat.zero_add _
    show arg15.view.read (Elt F) _ _ = _
    erw [ez]
    have hc : ∃ p ∈ amaxPieces i arg3 harg3 arg4 harg4 arg5 harg5 arg6 harg6 arg7 harg7 x0 x1 x2 x3 x4, y ∈ p.1.set := by
      refine ⟨_, List.mem_map.2 ⟨⟨(y 1).val, hy⟩, mem_cols _, rfl⟩, ?_⟩
      show y ∈ (rectA ⟨(y 1).val, hy⟩).set
      rw [Rect.mem_set_unit]
      intro a
      have h0 : (y 0).val < 128 := (y 0).isLt
      match a with
      | ⟨0, _⟩ => exact ⟨Nat.zero_le _, by show (y 0).val < 0 + 128; omega⟩
      | ⟨1, _⟩ => exact ⟨Nat.le_refl _, Nat.lt_succ_self _⟩
    rw [View.read_writes_apply_eq_canon _ _ _ _ hc]
    refine View.canon_apply_of_pieces (amax i x0 x1 x2 x3 x4) (amaxPieces i arg3 harg3 arg4 harg4 arg5 harg5 arg6 harg6 arg7 harg7 x0 x1 x2 x3 x4) ?_ y hc
    intro p hp x
    obtain ⟨j, -, rfl⟩ := List.mem_map.1 hp
    have hx : (x 1).val < 1 := (x 1).isLt
    have e1 : (((rectA j).emb x) 1).val = j.val + (x 1).val := Rect.idx_unit_val _ _ _ x 1
    have e0 : (((rectA j).emb x) 0).val = 0 + (x 0).val := Rect.idx_unit_val _ _ _ x 0
    dsimp only
    rw [tileW_eq]
    unfold amax
    have hj : (⟨(((rectA j).emb x) 1).val % 16, Nat.mod_lt _ (by decide)⟩ : Fin 16) = j := by
      apply Fin.ext; show (((rectA j).emb x) 1).val % 16 = j.val; have := j.isLt; omega
    have hl : (ix2 (((rectA j).emb x) 0) 0 : S128x1.Idx) = x := by
      funext a
      match a with
      | ⟨0, _⟩ => apply Fin.ext; show (((rectA j).emb x) 0).val = (x 0).val; omega
      | ⟨1, _⟩ => exact fin1_eq rfl _ _
    rw [hj, hl, shapeCast_id]
  · funext a
    match a with
    | ⟨0, _⟩ => rfl
    | ⟨1, _⟩ => rfl
    | ⟨2, _⟩ => rfl
  · intro y
    refine ⟨_, List.mem_singleton_self _, ?_⟩
    show y ∈ (Rect.unit ![0, 0, 0] S1x16x128.size inb_S1x16x128_S1x16x128_0_0_0).set
    rw [Rect.mem_set_unit]
    intro a
    have h0 : (y 0).val < 1 := (y 0).isLt
    have h1 : (y 1).val < 16 := (y 1).isLt
    have h2 : (y 2).val < 128 := (y 2).isLt
    match a with
    | ⟨0, _⟩ => exact ⟨Nat.zero_le _, by show (y 0).val < 0 + 1; omega⟩
    | ⟨1, _⟩ => exact ⟨Nat.zero_le _, by show (y 1).val < 0 + 16; omega⟩
    | ⟨2, _⟩ => exact ⟨Nat.zero_le _, by show (y 2).val < 0 + 128; omega⟩

end Cert.Kernel.Block

end
-- ==== Proof.Words.Run.lean ====
/- The run of the whole pipeline: what each window's buffer holds after the body at each point, the body's triple, and
   the launch. The column scales' block is revisited along the row axis of the grid; what it holds after a point is
   the recursion `st`. -/
module

public import proofs.«01_k».proof.Proof.Words.Blocks
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Body Cert.Kernel.Block

/-! ## The column scales' block, point by point -/

/-- The third grid coordinate is the fastest. -/
theorem coord2 : ∀ t : Fin cfg0.N, ((grid0.coords t) 2).val = t.val % 10 :=
  (by decide +kernel : ∀ t : Fin grid0.N, ((grid0.coords t) 2).val = t.val % 10)

/-- The mask of rows not yet fixed. -/
theorem mask_apply (k r : Fin 10) :
    IntOp.cmpi .sge (BitVec.ofNat 32 k.val) (BitVec.ofNat 32 r.val) = if r.val ≤ k.val then 1#1 else 0#1 := by revert k r; decide

/-- The column scales after row group `r`, at an index: the rows from `r` on are the tile's, the rows before are kept. -/
theorem scalesT_apply (r : Fin 10) (w : FVec F S128x128 .f32) (before : Vec F S1x10x128 .f32) (y : S10x128.Idx) :
    Tile.scalesT (BitVec.ofNat 32 r.val) w before y =
      if r.val ≤ (y 0).val then Tile.scale (Tile.amaxCol w) (ix2 0 (y 1)) else before (ix3 0 (y 0) (y 1)) := by
  have hm := mask_apply (y 0) r
  unfold Tile.scalesT
  pointwise
  by_cases h : r.val ≤ (y 0).val
  · rw [if_pos h] at hm ⊢; rw [hm]; rfl
  · rw [if_neg h] at hm ⊢; rw [hm]; rfl

/-- At the first row group nothing of the block before is kept. -/
theorem scalesT_first (w : FVec F S128x128 .f32) (a b : Vec F S1x10x128 .f32) :
    Tile.scalesT (BitVec.ofNat 32 0) w a = Tile.scalesT (BitVec.ofNat 32 0) w b := by
  funext y
  have ha := scalesT_apply 0 w a y
  have hb := scalesT_apply 0 w b y
  exact ha.trans hb.symm

theorem out11_first (i : grid0.Coords) (hi : (i 2).val = 0) (x0 : Vec F S3x5 .f32) (x1 : Vec F S1x128x2048 .f32) (x2 : Vec F S1x128x2048 .bf16)
    (x3 x4 : Vec F S1x128x2048 .f32) (a b : Vec F S1x10x2048 .f32) : out11 i x0 x1 x2 x3 x4 a = out11 i x0 x1 x2 x3 x4 b := by
  unfold out11
  rw [hi]
  refine congrArg assembleS (funext fun j => ?_)
  rw [scalesT_first]

/-- The column scales' block after point `n`. -/
def st (c : Dev nD) : (n : ℕ) → n < cfg0.N → Vec F S1x10x2048 .f32
  | 0, h => out11 (grid0.coords ⟨0, h⟩) (iblk m c 0 ⟨0, h⟩) (iblk m c 1 ⟨0, h⟩) (iblk m c 2 ⟨0, h⟩) (iblk m c 3 ⟨0, h⟩) (iblk m c 4 ⟨0, h⟩)
      (fun _ => Scalar.ofBits .f32 0#32)
  | n + 1, h => out11 (grid0.coords ⟨n + 1, h⟩) (iblk m c 0 ⟨n + 1, h⟩) (iblk m c 1 ⟨n + 1, h⟩) (iblk m c 2 ⟨n + 1, h⟩) (iblk m c 3 ⟨n + 1, h⟩)
      (iblk m c 4 ⟨n + 1, h⟩) (st c n (Nat.lt_of_succ_lt h))

/-! ## The pipeline's proof data -/

/-- The arrays as the region finds them; after the body at a point each input's buffer at its block and each output's
    at what the body leaves; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (grid0.coords t) (iblk m c 0 t) (iblk m c 1 t) (iblk m c 2 t) (iblk m c 3 t) (iblk m c 4 t)
    | ⟨6, _⟩ => out6 (iblk m c 2 t) (iblk m c 3 t)
    | ⟨7, _⟩ => out7 (iblk m c 2 t) (iblk m c 4 t)
    | ⟨8, _⟩ => out8 (grid0.coords t) (iblk m c 0 t) (iblk m c 1 t) (iblk m c 2 t) (iblk m c 3 t) (iblk m c 4 t)
    | ⟨9, _⟩ => out9 (grid0.coords t) (iblk m c 0 t) (iblk m c 1 t) (iblk m c 2 t) (iblk m c 3 t) (iblk m c 4 t)
    | ⟨10, _⟩ => out10 (grid0.coords t) (iblk m c 0 t) (iblk m c 1 t) (iblk m c 2 t) (iblk m c 3 t) (iblk m c 4 t)
    | ⟨11, _⟩ => st m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 (grid0.coords t) (iblk m c 0 t) (iblk m c 1 t) (iblk m c 2 t) (iblk m c 3 t) (iblk m c 4 t) := by dsimp only [dats]
theorem after0_6 (c : Dev nD) (t : Fin cfg0.N) : (dats m 0 c).after 6 t = out6 (iblk m c 2 t) (iblk m c 3 t) := by dsimp only [dats]
theorem after0_7 (c : Dev nD) (t : Fin cfg0.N) : (dats m 0 c).after 7 t = out7 (iblk m c 2 t) (iblk m c 4 t) := by dsimp only [dats]
theorem after0_8 (c : Dev nD) (t : Fin cfg0.N) : (dats m 0 c).after 8 t = out8 (grid0.coords t) (iblk m c 0 t) (iblk m c 1 t) (iblk m c 2 t) (iblk m c 3 t) (iblk m c 4 t) := by dsimp only [dats]
theorem after0_9 (c : Dev nD) (t : Fin cfg0.N) : (dats m 0 c).after 9 t = out9 (grid0.coords t) (iblk m c 0 t) (iblk m c 1 t) (iblk m c 2 t) (iblk m c 3 t) (iblk m c 4 t) := by dsimp only [dats]
theorem after0_10 (c : Dev nD) (t : Fin cfg0.N) : (dats m 0 c).after 10 t = out10 (grid0.coords t) (iblk m c 0 t) (iblk m c 1 t) (iblk m c 2 t) (iblk m c 3 t) (iblk m c 4 t) := by dsimp only [dats]
theorem after0_11 (c : Dev nD) (t : Fin cfg0.N) : (dats m 0 c).after 11 t = st m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Whatever the buffer is handed with, the body leaves the column scales at the recursion's value. -/
theorem out11_before (c : Dev nD) (t : Fin cfg0.N) (d) :
    out11 (grid0.coords t) (iblk m c 0 t) (iblk m c 1 t) (iblk m c 2 t) (iblk m c 3 t) (iblk m c 4 t) ((dats m 0 c).before 11 t d) = st m c t.val t.isLt := by
  obtain ⟨n, hn⟩ := t
  cases n with
  | zero =>
    exact out11_first _ (coord2 ⟨0, hn⟩) _ _ _ _ _ _ _
  | succ n =>
    by_cases h0 : (n + 1) % 10 = 0
    · exact out11_first _ ((coord2 ⟨n + 1, hn⟩).trans h0) _ _ _ _ _ _ _
    · have hfl : (cfg0.win 11).flush ⟨n, Nat.lt_of_succ_lt hn⟩ = false := by
        rw [Bool.eq_false_iff]
        intro h
        have := (flush0_11 ⟨n, Nat.lt_of_succ_lt hn⟩).1 h
        dsimp only at this
        omega
      have hb : (dats m 0 c).before 11 ⟨n + 1, hn⟩ d = (dats m 0 c).after 11 ⟨n, Nat.lt_of_succ_lt hn⟩ :=
        (dats m 0 c).before_out_kept 11 rfl ⟨n + 1, hn⟩ (Nat.succ_ne_zero n) hfl (fun _ => rfl) (fun _ _ => rfl) d
      rw [hb, after0_11]
      rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨%xs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) ((dats m 0 c).before 11 t d11) xs).2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexact H11
  isplitl [HS0]; · iexact HS0
  iintro ⟨H0, H1, H2, H3, H4, ⟨%e5, H5⟩, ⟨%e6, H6⟩, ⟨%e7, H7⟩, ⟨%e8, H8⟩, ⟨%e9, H9⟩, ⟨%e10, H10⟩, ⟨%e11, H11⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read5 c _ _ _ _ _ _ _ _ _ _ _ _ _ _ _ _ _ _ _ _ _ _ _ _ _ _ _ _ _ _ _ _ _ _ e5
  isplitl [H6]
  · unfold owns; iexists _; isplitr
    swap; · iexact H6
    ipureintro; exact read6 c _ _ _ _ _ _ _ _ _ _ _ _ _ _ _ _ _ _ _ _ _ _ _ _ _ _ _ _ _ _ _ _ _ _ e6
  isplitl [H7]
  · unfold owns; iexists _; isplitr
    swap; · iexact H7
    ipureintro; exact read7 c _ _ _ _ _ _ _ _ _ _ _ _ _ _ _ _ _ _ _ _ _ _ _ _ _ _ _ _ _ _ _ _ _ _ e7
  isplitl [H8]
  · unfold owns; iexists _; isplitr
    swap; · iexact H8
    ipureintro; exact read8 c _ _ _ _ _ _ _ _ _ _ _ _ _ _ _ _ _ _ _ _ _ _ _ _ _ _ _ _ _ _ _ _ _ _ e8
  isplitl [H9]
  · unfold owns; iexists _; isplitr
    swap; · iexact H9
    ipureintro; exact read9 c _ _ _ _ _ _ _ _ _ _ _ _ _ _ _ _ _ _ _ _ _ _ _ _ _ _ _ _ _ _ _ _ _ _ e9
  isplitl [H10]
  · unfold owns; iexists _; isplitr
    swap; · iexact H10
    ipureintro; exact read10 c _ _ _ _ _ _ _ _ _ _ _ _ _ _ _ _ _ _ _ _ _ _ _ _ _ _ _ _ _ _ _ _ _ _ e10
  unfold owns; iexists _; isplitr
  swap; · iexact H11
  ipureintro; exact (read11 c _ _ _ _ _ _ _ _ _ _ _ _ _ _ _ _ _ _ _ _ _ _ _ _ _ _ _ _ _ _ _ _ _ _ e11).trans (out11_before m c t d11)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.Names.lean ====
/- The staging buffers of the kernel's windows at a grid point, and its scratch buffer. -/
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs -/

/-- One staging buffer of output window 5, through which its contents are stated (`View.read_writes_of_cover`: the
    choice does not matter). -/
abbrev VO0_5 : View sig .tc .vmem S1x128x2048 .f32 := (Memref.whole cc0_stg5_0 : Memref sig .tc .vmem S1x128x2048 .f32).view
/-- One staging buffer of output window 6, through which its contents are stated (`View.read_writes_of_cover`: the
    choice does not matter). -/
abbrev VO0_6 : View sig .tc .vmem S1x128x2048 .f32 := (Memref.whole cc0_stg6_0 : Memref sig .tc .vmem S1x128x2048 .f32).view
/-- One staging buffer of output window 7, through which its contents are stated (`View.read_writes_of_cover`: the
    choice does not matter). -/
abbrev VO0_7 : View sig .tc .vmem S1x128x2048 .f32 := (Memref.whole cc0_stg7_0 : Memref sig .tc .vmem S1x128x2048 .f32).view
/-- One staging buffer of output window 8, through which its contents are stated (`View.read_writes_of_cover`: the
    choice does not matter). -/
abbrev VO0_8 : View sig .tc .vmem S1x128x2048 .fp8e4m3 := (Memref.whole cc0_stg8_0 : Memref sig .tc .vmem S1x128x2048 .fp8e4m3).view
/-- One staging buffer of output window 9, through which its contents are stated (`View.read_writes_of_cover`: the
    choice does not matter). -/
abbrev VO0_9 : View sig .tc .vmem S1x16x128 .f32 := (Memref.whole cc0_stg9_0 : Memref sig .tc .vmem S1x16x128 .f32).view
/-- One staging buffer of output window 10, through which its contents are stated (`View.read_writes_of_cover`: the
    choice does not matter). -/
abbrev VO0_10 : View sig .tc .vmem S1x2048x128 .fp8e4m3 := (Memref.whole cc0_stg10_0 : Memref sig .tc .vmem S1x2048x128 .fp8e4m3).view
/-- One staging buffer of output window 11, through which its contents are stated (`View.read_writes_of_cover`: the
    choice does not matter). -/
abbrev VO0_11 : View sig .tc .vmem S1x10x2048 .f32 := (Memref.whole cc0_stg11_0 : Memref sig .tc .vmem S1x10x2048 .f32).view
/-- Each window's current staging memref at point `t`, spelled as the pipeline passes it (`bodyAt0`), and its wholeness. -/
abbrev ms0_0 (t : Fin cfg0.N) : Memref sig .tc .smem S3x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x2048 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x10x2048 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S128x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.BodyRun.lean ====
/- The kernel's body run once, over whole staging buffers. -/
module

public import proofs.«01_k».proof.Proof.Names

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    Σ' (L5 : List (View.Piece (Elt F) S1x128x2048 .f32)), Σ' (L6 : List (View.Piece (Elt F) S1x128x2048 .f32)), Σ' (L7 : List (View.Piece (Elt F) S1x128x2048 .f32)), Σ' (L8 : List (View.Piece (Elt F) S1x128x2048 .fp8e4m3)), Σ' (L9 : List (View.Piece (Elt F) S1x16x128 .f32)), Σ' (L10 : List (View.Piece (Elt F) S1x2048x128 .fp8e4m3)), { L11 : List (View.Piece (Elt F) S1x10x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x11 ∗ owns (c : Thread nD τ) arg15 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ d, owns (c : Thread nD τ) arg15 fullShare d)) -∗ K ⟨⟩))
          ⊢ wp frame (wpE (defs₀ (F := F)) Variants.none c none) E (cc0_adamw_cast i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_adamw_cast_eq_skeleton]; unfold cc0_adamw_cast_skel
    simp only [k0_part78_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg14.eq_unread hf11; obtain rfl := harg15.eq_unread hfs0
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _, _; isplitr; swap; · iexact HS0
    ipureintro; rfl

end Cert.KernelIdeal.Body

end
-- ==== Proof.Tile.lean ====
/- One 128x128 tile of the update and of its quantisation, as the kernel computes it: the vocabulary the
   stores of the body are stated in. -/
module

public import proofs.«01_k».proof.Proof.Gen.KernelIdeal

@[expose] public section

set_option maxRecDepth 16384

noncomputable section

namespace Cert.KernelIdeal.Tile

open Idealize.ShloMosaic Idealize.SL.Sem
open Cert.KernelIdeal.Gen

variable {F : FTy → Type} [FloatOps F]

/-! ## The optimiser's update of a tile -/

/-- The gradient's tile in f32. -/
def grad (g : Vec F S1x128x128 .bf16) : FVec F S128x128 .f32 :=
  extf .f32 (shapeCast S128x128 g shapeCasts_S1x128x128_S128x128) bitsLt_bf16_f32

/-- The new first moment: `0.9 m + 0.1 g`. -/
def newM (g : Vec F S1x128x128 .bf16) (m : Vec F S1x128x128 .f32) : FVec F S128x128 .f32 :=
  addf (mulf (broadcast S128x128 (Scalar.ofBits .f32 0x3F666666#32)) (shapeCast S128x128 m shapeCasts_S1x128x128_S128x128))
    (mulf (broadcast S128x128 (Scalar.ofBits .f32 0x3DCCCCCD#32)) (grad g))

/-- The new second moment: `0.95 v + 0.05 g g`. -/
def newV (g : Vec F S1x128x128 .bf16) (v : Vec F S1x128x128 .f32) : FVec F S128x128 .f32 :=
  addf (mulf (broadcast S128x128 (Scalar.ofBits .f32 0x3F733333#32)) (shapeCast S128x128 v shapeCasts_S1x128x128_S128x128))
    (mulf (mulf (broadcast S128x128 (Scalar.ofBits .f32 0x3D4CCCCD#32)) (grad g)) (grad g))

/-- The new weights: `w c0 - c1 (m' / (sqrt v' c2 + eps))`, the three scalars those of the layer. -/
def newW (c0 c1 c2 : Elt F .f32) (w : Vec F S1x128x128 .f32) (g : Vec F S1x128x128 .bf16) (m v : Vec F S1x128x128 .f32) :
    FVec F S128x128 .f32 :=
  subf (mulf (shapeCast S128x128 w shapeCasts_S1x128x128_S128x128) (broadcast S128x128 c0))
    (mulf (broadcast S128x128 c1)
      (divf (newM g m)
        (addf (mulf (sqrt (newV g v)) (broadcast S128x128 c2)) (broadcast S128x128 (Scalar.ofBits .f32 0x322BCC77#32)))))

/-! ## The power-of-two scale of a group, from its largest magnitude -/

section Scale

variable {s : Shape}

/-- One step of the search for the exponent bits: add `k` if the float those bits spell is still at most `x`. -/
def step (x : FVec F s .f32) (k : BitVec 32) (b : IVec s 32) : IVec s 32 :=
  select (cmpf .oge x (bitcastToFloat .f32 (addi b (broadcast s k)))) (addi b (broadcast s k)) b

/-- The exponent bits of `x`. -/
def expBits (x : FVec F s .f32) : IVec s 32 :=
  step x 8388608#32 (step x 16777216#32 (step x 33554432#32 (step x 67108864#32
    (step x 134217728#32 (step x 268435456#32 (step x 536870912#32 (step x 1073741824#32 (broadcast s 0#32))))))))

/-- The exponent bits of `a / 448`, all ones when `a` is not finite. -/
def biased (a : FVec F s .f32) : IVec s 32 :=
  select (cmpf .ole a (broadcast s (Scalar.ofBits .f32 0x7F7FFFFF#32)))
    (expBits (mulf a (broadcast s (Scalar.ofBits .f32 0x3B124925#32)))) (broadcast s 2139095040#32)

/-- The same, those of 1/2 where the field is zero or all ones. -/
def word (a : FVec F s .f32) : IVec s 32 :=
  select (andi (cmpi .ne (biased a) (broadcast s 0#32)) (cmpi .ne (biased a) (broadcast s 2139095040#32)))
    (biased a) (broadcast s 1056964608#32)

/-- The scale of a group: a power of two. -/
def scale (a : FVec F s .f32) : FVec F s .f32 := bitcastToFloat .f32 (addi (word a) (broadcast s 8388608#32))

/-- The scale's reciprocal. -/
def inv (a : FVec F s .f32) : FVec F s .f32 := bitcastToFloat .f32 (subi (broadcast s 2122317824#32) (word a))

end Scale

/-! ## The quantised tile -/

/-- The largest magnitude of each row of the tile. -/
def amaxRow (w : FVec F S128x128 .f32) : FVec F S128x1 .f32 :=
  shapeCast S128x1 (multiReduction .maximumf [1] S128 (absf w) 0xFF800000#32 reduces_S128x128_S128 (.inl rfl) rfl) shapeCasts_S128_S128x1

/-- The largest magnitude of each column of the tile. -/
def amaxCol (w : FVec F S128x128 .f32) : FVec F S1x128 .f32 :=
  shapeCast S1x128 (multiReduction .maximumf [0] S128 (absf w) 0xFF800000#32 reduces_S128x128_S128_2 (.inl rfl) rfl) shapeCasts_S128_S1x128

/-- Clipped to +-448 and cast to f8. -/
def cast (q : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32)) q)) bitsLt_fp8e4m3_f32

/-- The codes of the tile, each row by its own scale. -/
def codes (w : FVec F S128x128 .f32) : FVec F S128x128 .fp8e4m3 :=
  cast (mulf w (broadcastTo S128x128 (inv (amaxRow w)) broadcasts_S128x1_S128x128))

/-- The codes of the tile transposed, each column of it by its own scale. -/
def codesT (w : FVec F S128x128 .f32) : FVec F S128x128 .fp8e4m3 :=
  transpose S128x128 [1, 0] (cast (mulf w (broadcastTo S128x128 (inv (amaxCol w)) broadcasts_S1x128_S128x128)))
    transposes_S128x128_p1_0_S128x128

/-- The column scales' block after the tile: the rows from `r` on at the tile's column scales, the others as they were. -/
def scalesT (r : BitVec 32) (w : FVec F S128x128 .f32) (before : Vec F S1x10x128 .f32) : FVec F S10x128 .f32 :=
  select (cmpi .sge (iota .tc S10x128 32 [0] iota_S10x128_d0_w32) (broadcast S10x128 r))
    (broadcastTo S10x128 (shapeCast S1x128 (scale (amaxCol w)) shapeCasts_S1x128_S1x128) broadcasts_S1x128_S10x128)
    (shapeCast S10x128 before shapeCasts_S1x10x128_S10x128)

/-- The row scales, from the rows' magnitudes one column per tile. -/
def scales (a : Vec F S128x128 .f32) : FVec F S16x128 .f32 :=
  scale (extractStridedSlice S16x128 ![0, 0] (transpose S128x128 [1, 0] a transposes_S128x128_p1_0_S128x128) slices_S128x128_o0_0_S16x128)

end Cert.KernelIdeal.Tile

end
-- ==== Proof.Pieces.lean ====
/- What the body stores in each output, in the vocabulary of Tile: one piece per group of 128 columns. -/
module

public import proofs.«01_k».proof.Proof.BodyRun
public import proofs.«01_k».proof.Proof.Tile

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The column groups, last first. -/
def cols : List (Fin 16) := [15, 14, 13, 12, 11, 10, 9, 8, 7, 6, 5, 4, 3, 2, 1, 0]

theorem mem_cols (j : Fin 16) : j ∈ cols := by revert j; decide

/-- Column group `j` of a block of 2048 columns. -/
abbrev rect (j : Fin 16) : Rect S1x128x2048 :=
  Rect.unit ![0, 0, 128 * j.val] S1x128x128.size (by
    intro a; fin_cases a <;> simp [S1x128x2048, S1x128x128] <;> omega)

/-- Row group `j` of the transposed codes' block of 2048 rows. -/
abbrev rectT (j : Fin 16) : Rect S1x2048x128 :=
  Rect.unit ![0, 128 * j.val, 0] S1x128x128.size (by
    intro a; fin_cases a <;> simp [S1x2048x128, S1x128x128] <;> omega)

/-- Column group `j` of the column scales' block. -/
abbrev rectS (j : Fin 16) : Rect S1x10x2048 :=
  Rect.unit ![0, 0, 128 * j.val] S1x10x128.size (by
    intro a; fin_cases a <;> simp [S1x10x2048, S1x10x128] <;> omega)

/-- Column `j` of the scratch. -/
abbrev rectA (j : Fin 16) : Rect S128x128 :=
  Rect.unit ![0, j.val] S128x1.size (by
    intro a; fin_cases a <;> simp [S128x128, S128x1] <;> omega)

/-- The load of column group `j` of a block. -/
def ld {e : EltTy} (arg : Memref sig .tc .vmem S1x128x2048 e) (harg : arg.IsWhole) (x : Vec F S1x128x2048 e) (j : Fin 16) :
    Vec F S1x128x128 e :=
  View.readAt (Elt F) arg.view (rect j).toLoadRect (harg.unread x)

/-- A scalar of the layer. -/
def scal (arg3 : Memref sig .tc .smem S3x5 .f32) (harg3 : arg3.IsWhole) (x0 : Vec F S3x5 .f32) (off : Fin 2 → ℕ)
    (h : ∀ a, off a + S1x1.size a ≤ S3x5.size a) : Elt F .f32 :=
  View.readAt (Elt F) arg3.view (Rect.unit (s := S3x5) off S1x1.size h).toLoadRect (harg3.unread x0) (Shape.Idx.first (by show 0 < S1x1.numel; rw [numel1_S1x1]; exact Nat.one_pos))

/-- The new weights of column group `j`. -/
def tileW (i : grid0.Coords) (arg3 : Memref sig .tc .smem S3x5 .f32) (harg3 : arg3.IsWhole) (arg4 : Memref sig .tc .vmem S1x128x2048 .f32) (harg4 : arg4.IsWhole)
    (arg5 : Memref sig .tc .vmem S1x128x2048 .bf16) (harg5 : arg5.IsWhole) (arg6 : Memref sig .tc .vmem S1x128x2048 .f32) (harg6 : arg6.IsWhole)
    (arg7 : Memref sig .tc .vmem S1x128x2048 .f32) (harg7 : arg7.IsWhole) (x0 : Vec F S3x5 .f32) (x1 : Vec F S1x128x2048 .f32) (x2 : Vec F S1x128x2048 .bf16)
    (x3 : Vec F S1x128x2048 .f32) (x4 : Vec F S1x128x2048 .f32) (j : Fin 16) : FVec F S128x128 .f32 :=
  Tile.newW (scal arg3 harg3 x0 (k0_off1 i) (k0_off1_inb i)) (scal arg3 harg3 x0 (k0_off2 i) (k0_off2_inb i))
    (scal arg3 harg3 x0 (k0_off3 i) (k0_off3_inb i)) (ld arg4 harg4 x1 j) (ld arg5 harg5 x2 j) (ld arg6 harg6 x3 j) (ld arg7 harg7 x4 j)

/-- The stores of the new weights. -/
theorem pieces5 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).1 = cols.map fun j => ⟨rect j, shapeCast S1x128x128 (tileW i arg3 harg3 arg4 harg4 arg5 harg5 arg6 harg6 arg7 harg7 x0 x1 x2 x3 x4 j) shapeCasts_S128x128_S1x128x128⟩ := by
  sl_kernel_rfl

/-- The stores of the new first moment. -/
theorem pieces6 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.1 = cols.map fun j => ⟨rect j, shapeCast S1x128x128 (Tile.newM (ld arg5 harg5 x2 j) (ld arg6 harg6 x3 j)) shapeCasts_S128x128_S1x128x128⟩ := by
  sl_kernel_rfl

/-- The stores of the new second moment. -/
theorem pieces7 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.1 = cols.map fun j => ⟨rect j, shapeCast S1x128x128 (Tile.newV (ld arg5 harg5 x2 j) (ld arg7 harg7 x4 j)) shapeCasts_S128x128_S1x128x128⟩ := by
  sl_kernel_rfl

/-- The stores of the codes. -/
theorem pieces8 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.1 = cols.map fun j => ⟨rect j, shapeCast S1x128x128 (Tile.codes (tileW i arg3 harg3 arg4 harg4 arg5 harg5 arg6 harg6 arg7 harg7 x0 x1 x2 x3 x4 j)) shapeCasts_S128x128_S1x128x128⟩ := by
  sl_kernel_rfl

/-- The stores of the rows' magnitudes in the scratch. -/
def amaxPieces (i : grid0.Coords) (arg3 : Memref sig .tc .smem S3x5 .f32) (harg3 : arg3.IsWhole) (arg4 : Memref sig .tc .vmem S1x128x2048 .f32) (harg4 : arg4.IsWhole)
    (arg5 : Memref sig .tc .vmem S1x128x2048 .bf16) (harg5 : arg5.IsWhole) (arg6 : Memref sig .tc .vmem S1x128x2048 .f32) (harg6 : arg6.IsWhole)
    (arg7 : Memref sig .tc .vmem S1x128x2048 .f32) (harg7 : arg7.IsWhole) (x0 : Vec F S3x5 .f32) (x1 : Vec F S1x128x2048 .f32) (x2 : Vec F S1x128x2048 .bf16)
    (x3 : Vec F S1x128x2048 .f32) (x4 : Vec F S1x128x2048 .f32) : List (View.Piece (Elt F) S128x128 .f32) :=
  cols.map fun j => ⟨rectA j, shapeCast S128x1 (Tile.amaxRow (tileW i arg3 harg3 arg4 harg4 arg5 harg5 arg6 harg6 arg7 harg7 x0 x1 x2 x3 x4 j)) shapeCasts_S128x1_S128x1⟩

/-- The one store of the row scales, from the scratch as those stores leave it. -/
theorem pieces9 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.1 = [⟨Rect.unit ![0, 0, 0] S1x16x128.size inb_S1x16x128_S1x16x128_0_0_0,
      shapeCast S1x16x128 (Tile.scales
        (View.readAt (Elt F) arg15.view (Rect.unit ![0, 0] S128x128.size inb_S128x128_S128x128_0_0).toLoadRect
          (arg15.view.writes (Elt F) (harg15.unread xs)
            (amaxPieces i arg3 harg3 arg4 harg4 arg5 harg5 arg6 harg6 arg7 harg7 x0 x1 x2 x3 x4)))) shapeCasts_S16x128_S1x16x128⟩] := by
  sl_kernel_rfl

/-- The stores of the transposed codes. -/
theorem pieces10 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.2.1 = cols.map fun j => ⟨rectT j, shapeCast S1x128x128 (Tile.codesT (tileW i arg3 harg3 arg4 harg4 arg5 harg5 arg6 harg6 arg7 harg7 x0 x1 x2 x3 x4 j)) shapeCasts_S128x128_S1x128x128⟩ := by
  sl_kernel_rfl

/-- The stores of the column scales. -/
theorem pieces11 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole)
    (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.2.2.1 = cols.map fun j => ⟨rectS j, shapeCast S1x10x128 (Tile.scalesT (BitVec.ofNat 32 (i 2).val) (tileW i arg3 harg3 arg4 harg4 arg5 harg5 arg6 harg6 arg7 harg7 x0 x1 x2 x3 x4 j)
      (View.readAt (Elt F) arg14.view (rectS j).toLoadRect (harg14.unread x11))) shapeCasts_S10x128_S1x10x128⟩ := by
  sl_kernel_rfl

end Cert.KernelIdeal.Body

end
-- ==== Proof.Blocks.lean ====
/- What the body leaves in each output block, as a function of the blocks it is given: no memory in it. -/
module

public import proofs.«01_k».proof.Proof.Pieces
public import Idealize.ShloMosaic.Lib.WholeRead
public import Idealize.ShloMosaic.Lib.Pointwise
public import Idealize.ShloMosaic.Lib.Pipeline.ValueKit

@[expose] public section

set_option maxRecDepth 16384

noncomputable section

namespace Cert.KernelIdeal.Block

open Idealize.ShloMosaic Idealize.ShloMosaic.TcCoe Idealize.ShloMosaic.Tactic
open Idealize.SL.Sem
open Cert.KernelIdeal.Gen Cert.KernelIdeal Cert.KernelIdeal.Body

variable {F : FTy → Type} [FloatOps F]

/-! ## Tiles of a block -/

/-- Column group `j` of a block of 2048 columns. -/
def sub {α : Type} (x : S1x128x2048.Idx → α) (j : Fin 16) : S1x128x128.Idx → α := fun y => x ((rect j).toLoadRect.idx y)

/-- Column group `j` of a block of the column scales. -/
def subS {α : Type} (x : S1x10x2048.Idx → α) (j : Fin 16) : S1x10x128.Idx → α := fun y => x ((rectS j).toLoadRect.idx y)

/-- The entry of the scalars' table at an offset. -/
def sc (x0 : Vec F S3x5 .f32) (off : Fin 2 → ℕ) (h : ∀ a, off a + S1x1.size a ≤ S3x5.size a) : Elt F .f32 :=
  x0 ((Rect.unit (s := S3x5) off S1x1.size h).toLoadRect.idx (Shape.Idx.first (by show 0 < S1x1.numel; rw [numel1_S1x1]; exact Nat.one_pos)))

/-- The block whose column group `j` is `P j`. -/
def assemble {α : Type} (P : Fin 16 → S1x128x128.Idx → α) : S1x128x2048.Idx → α := fun y =>
  P ⟨(y 2).val / 128, by have : (y 2).val < 2048 := (y 2).isLt; omega⟩ (ix3 0 (y 1) ⟨(y 2).val % 128, Nat.mod_lt _ (by decide)⟩)

/-- The block whose row group `j` is `P j`. -/
def assembleT {α : Type} (P : Fin 16 → S1x128x128.Idx → α) : S1x2048x128.Idx → α := fun y =>
  P ⟨(y 1).val / 128, by have : (y 1).val < 2048 := (y 1).isLt; omega⟩ (ix3 0 ⟨(y 1).val % 128, Nat.mod_lt _ (by decide)⟩ (y 2))

/-- The block of column scales whose column group `j` is `P j`. -/
def assembleS {α : Type} (P : Fin 16 → S1x10x128.Idx → α) : S1x10x2048.Idx → α := fun y =>
  P ⟨(y 2).val / 128, by have : (y 2).val < 2048 := (y 2).isLt; omega⟩ (ix3 0 (y 1) ⟨(y 2).val % 128, Nat.mod_lt _ (by decide)⟩)

theorem fin1_eq {n : Nat} (h : n = 1) (a b : Fin n) : a = b := by subst h; exact Subsingleton.elim a b

/-- Stores that fill a block column group by column group leave the assembled block. -/
theorem canon_cols {e : EltTy} (P : Fin 16 → S1x128x128.Idx → Elt F e) :
    View.canon (Val := Elt F) (cols.map fun j => (⟨rect j, P j⟩ : View.Piece (Elt F) S1x128x2048 e)) = assemble P := by
  funext y
  refine View.canon_apply_of_pieces (assemble P) _ ?_ y ?_
  · intro p hp x
    obtain ⟨j, -, rfl⟩ := List.mem_map.1 hp
    have hx : (x 2).val < 128 := (x 2).isLt
    have e1 : (((rect j).emb x) 2).val = 128 * j.val + (x 2).val := Rect.idx_unit_val _ _ _ x 2
    have e2 : (((rect j).emb x) 1).val = 0 + (x 1).val := Rect.idx_unit_val _ _ _ x 1
    unfold assemble
    have hj : (⟨(((rect j).emb x) 2).val / 128, by have : (((rect j).emb x) 2).val < 2048 := (((rect j).emb x) 2).isLt; omega⟩ : Fin 16) = j := by
      apply Fin.ext; show (((rect j).emb x) 2).val / 128 = j.val; omega
    have hl : (ix3 0 (((rect j).emb x) 1) ⟨(((rect j).emb x) 2).val % 128, Nat.mod_lt _ (by decide)⟩ : S1x128x128.Idx) = x := by
      funext a
      match a with
      | ⟨0, _⟩ => exact fin1_eq rfl _ _
      | ⟨1, _⟩ => apply Fin.ext; show (((rect j).emb x) 1).val = (x 1).val; omega
      | ⟨2, _⟩ => apply Fin.ext; show (((rect j).emb x) 2).val % 128 = (x 2).val; omega
    show P j x = P _ _
    rw [hj]
    exact congrArg (P j) hl.symm
  · have hy : (y 2).val < 2048 := (y 2).isLt
    refine ⟨_, List.mem_map.2 ⟨⟨(y 2).val / 128, by omega⟩, mem_cols _, rfl⟩, ?_⟩
    show y ∈ (rect ⟨(y 2).val / 128, by omega⟩).set
    rw [Rect.mem_set_unit]
    intro a
    have h0 : (y 0).val < 1 := (y 0).isLt
    have h1 : (y 1).val < 128 := (y 1).isLt
    match a with
    | ⟨0, _⟩ => exact ⟨Nat.zero_le _, by show (y 0).val < 0 + 1; omega⟩
    | ⟨1, _⟩ => exact ⟨Nat.zero_le _, by show (y 1).val < 0 + 128; omega⟩
    | ⟨2, _⟩ => exact ⟨by show 128 * ((y 2).val / 128) ≤ (y 2).val; omega, by show (y 2).val < 128 * ((y 2).val / 128) + 128; omega⟩

/-- They leave it whatever the buffer held. -/
theorem read_cols {e : EltTy} (v : View sig .tc .vmem S1x128x2048 e) (f : v.ty.Contents (Elt F))
    (P : Fin 16 → S1x128x128.Idx → Elt F e) :
    v.read (Elt F) (v.writes (Elt F) f (cols.map fun j => (⟨rect j, P j⟩ : View.Piece (Elt F) S1x128x2048 e))) = assemble P := by
  rw [View.read_writes_eq_canon, canon_cols]
  intro y
  have hy : (y 2).val < 2048 := (y 2).isLt
  refine ⟨_, List.mem_map.2 ⟨⟨(y 2).val / 128, by omega⟩, mem_cols _, rfl⟩, ?_⟩
  show y ∈ (rect ⟨(y 2).val / 128, by omega⟩).set
  rw [Rect.mem_set_unit]
  intro a
  have h0 : (y 0).val < 1 := (y 0).isLt
  have h1 : (y 1).val < 128 := (y 1).isLt
  match a with
  | ⟨0, _⟩ => exact ⟨Nat.zero_le _, by show (y 0).val < 0 + 1; omega⟩
  | ⟨1, _⟩ => exact ⟨Nat.zero_le _, by show (y 1).val < 0 + 128; omega⟩
  | ⟨2, _⟩ => exact ⟨by show 128 * ((y 2).val / 128) ≤ (y 2).val; omega, by show (y 2).val < 128 * ((y 2).val / 128) + 128; omega⟩

/-- Stores that fill a block row group by row group leave the assembled block. -/
theorem canon_rows {e : EltTy} (P : Fin 16 → S1x128x128.Idx → Elt F e) :
    View.canon (Val := Elt F) (cols.map fun j => (⟨rectT j, P j⟩ : View.Piece (Elt F) S1x2048x128 e)) = assembleT P := by
  funext y
  refine View.canon_apply_of_pieces (assembleT P) _ ?_ y ?_
  · intro p hp x
    obtain ⟨j, -, rfl⟩ := List.mem_map.1 hp
    have hx : (x 1).val < 128 := (x 1).isLt
    have e1 : (((rectT j).emb x) 1).val = 128 * j.val + (x 1).val := Rect.idx_unit_val _ _ _ x 1
    have e2 : (((rectT j).emb x) 2).val = 0 + (x 2).val := Rect.idx_unit_val _ _ _ x 2
    unfold assembleT
    have hj : (⟨(((rectT j).emb x) 1).val / 128, by have : (((rectT j).emb x) 1).val < 2048 := (((rectT j).emb x) 1).isLt; omega⟩ : Fin 16) = j := by
      apply Fin.ext; show (((rectT j).emb x) 1).val / 128 = j.val; omega
    have hl : (ix3 0 ⟨(((rectT j).emb x) 1).val % 128, Nat.mod_lt _ (by decide)⟩ (((rectT j).emb x) 2) : S1x128x128.Idx) = x := by
      funext a
      match a with
      | ⟨0, _⟩ => exact fin1_eq rfl _ _
      | ⟨1, _⟩ => apply Fin.ext; show (((rectT j).emb x) 1).val % 128 = (x 1).val; omega
      | ⟨2, _⟩ => apply Fin.ext; show (((rectT j).emb x) 2).val = (x 2).val; omega
    show P j x = P _ _
    rw [hj]
    exact congrArg (P j) hl.symm
  · have hy : (y 1).val < 2048 := (y 1).isLt
    refine ⟨_, List.mem_map.2 ⟨⟨(y 1).val / 128, by omega⟩, mem_cols _, rfl⟩, ?_⟩
    show y ∈ (rectT ⟨(y 1).val / 128, by omega⟩).set
    rw [Rect.mem_set_unit]
    intro a
    have h0 : (y 0).val < 1 := (y 0).isLt
    have h1 : (y 2).val < 128 := (y 2).isLt
    match a with
    | ⟨0, _⟩ => exact ⟨Nat.zero_le _, by show (y 0).val < 0 + 1; omega⟩
    | ⟨1, _⟩ => exact ⟨by show 128 * ((y 1).val / 128) ≤ (y 1).val; omega, by show (y 1).val < 128 * ((y 1).val / 128) + 128; omega⟩
    | ⟨2, _⟩ => exact ⟨Nat.zero_le _, by show (y 2).val < 0 + 128; omega⟩

/-- They leave it whatever the buffer held. -/
theorem read_rows {e : EltTy} (v : View sig .tc .vmem S1x2048x128 e) (f : v.ty.Contents (Elt F))
    (P : Fin 16 → S1x128x128.Idx → Elt F e) :
    v.read (Elt F) (v.writes (Elt F) f (cols.map fun j => (⟨rectT j, P j⟩ : View.Piece (Elt F) S1x2048x128 e))) = assembleT P := by
  rw [View.read_writes_eq_canon, canon_rows]
  intro y
  have hy : (y 1).val < 2048 := (y 1).isLt
  refine ⟨_, List.mem_map.2 ⟨⟨(y 1).val / 128, by omega⟩, mem_cols _, rfl⟩, ?_⟩
  show y ∈ (rectT ⟨(y 1).val / 128, by omega⟩).set
  rw [Rect.mem_set_unit]
  intro a
  have h0 : (y 0).val < 1 := (y 0).isLt
  have h1 : (y 2).val < 128 := (y 2).isLt
  match a with
  | ⟨0, _⟩ => exact ⟨Nat.zero_le _, by show (y 0).val < 0 + 1; omega⟩
  | ⟨1, _⟩ => exact ⟨by show 128 * ((y 1).val / 128) ≤ (y 1).val; omega, by show (y 1).val < 128 * ((y 1).val / 128) + 128; omega⟩
  | ⟨2, _⟩ => exact ⟨Nat.zero_le _, by show (y 2).val < 0 + 128; omega⟩

/-- Stores that fill the column scales' block column group by column group leave the assembled block. -/
theorem canon_scales {e : EltTy} (P : Fin 16 → S1x10x128.Idx → Elt F e) :
    View.canon (Val := Elt F) (cols.map fun j => (⟨rectS j, P j⟩ : View.Piece (Elt F) S1x10x2048 e)) = assembleS P := by
  funext y
  refine View.canon_apply_of_pieces (assembleS P) _ ?_ y ?_
  · intro p hp x
    obtain ⟨j, -, rfl⟩ := List.mem_map.1 hp
    have hx : (x 2).val < 128 := (x 2).isLt
    have e1 : (((rectS j).emb x) 2).val = 128 * j.val + (x 2).val := Rect.idx_unit_val _ _ _ x 2
    have e2 : (((rectS j).emb x) 1).val = 0 + (x 1).val := Rect.idx_unit_val _ _ _ x 1
    unfold assembleS
    have hj : (⟨(((rectS j).emb x) 2).val / 128, by have : (((rectS j).emb x) 2).val < 2048 := (((rectS j).emb x) 2).isLt; omega⟩ : Fin 16) = j := by
      apply Fin.ext; show (((rectS j).emb x) 2).val / 128 = j.val; omega
    have hl : (ix3 0 (((rectS j).emb x) 1) ⟨(((rectS j).emb x) 2).val % 128, Nat.mod_lt _ (by decide)⟩ : S1x10x128.Idx) = x := by
      funext a
      match a with
      | ⟨0, _⟩ => exact fin1_eq rfl _ _
      | ⟨1, _⟩ => apply Fin.ext; show (((rectS j).emb x) 1).val = (x 1).val; omega
      | ⟨2, _⟩ => apply Fin.ext; show (((rectS j).emb x) 2).val % 128 = (x 2).val; omega
    show P j x = P _ _
    rw [hj]
    exact congrArg (P j) hl.symm
  · have hy : (y 2).val < 2048 := (y 2).isLt
    refine ⟨_, List.mem_map.2 ⟨⟨(y 2).val / 128, by omega⟩, mem_cols _, rfl⟩, ?_⟩
    show y ∈ (rectS ⟨(y 2).val / 128, by omega⟩).set
    rw [Rect.mem_set_unit]
    intro a
    have h0 : (y 0).val < 1 := (y 0).isLt
    have h1 : (y 1).val < 10 := (y 1).isLt
    match a with
    | ⟨0, _⟩ => exact ⟨Nat.zero_le _, by show (y 0).val < 0 + 1; omega⟩
    | ⟨1, _⟩ => exact ⟨Nat.zero_le _, by show (y 1).val < 0 + 10; omega⟩
    | ⟨2, _⟩ => exact ⟨by show 128 * ((y 2).val / 128) ≤ (y 2).val; omega, by show (y 2).val < 128 * ((y 2).val / 128) + 128; omega⟩

/-- They leave it whatever the buffer held. -/
theorem read_scales {e : EltTy} (v : View sig .tc .vmem S1x10x2048 e) (f : v.ty.Contents (Elt F))
    (P : Fin 16 → S1x10x128.Idx → Elt F e) :
    v.read (Elt F) (v.writes (Elt F) f (cols.map fun j => (⟨rectS j, P j⟩ : View.Piece (Elt F) S1x10x2048 e))) = assembleS P := by
  rw [View.read_writes_eq_canon, canon_scales]
  intro y
  have hy : (y 2).val < 2048 := (y 2).isLt
  refine ⟨_, List.mem_map.2 ⟨⟨(y 2).val / 128, by omega⟩, mem_cols _, rfl⟩, ?_⟩
  show y ∈ (rectS ⟨(y 2).val / 128, by omega⟩).set
  rw [Rect.mem_set_unit]
  intro a
  have h0 : (y 0).val < 1 := (y 0).isLt
  have h1 : (y 1).val < 10 := (y 1).isLt
  match a with
  | ⟨0, _⟩ => exact ⟨Nat.zero_le _, by show (y 0).val < 0 + 1; omega⟩
  | ⟨1, _⟩ => exact ⟨Nat.zero_le _, by show (y 1).val < 0 + 10; omega⟩
  | ⟨2, _⟩ => exact ⟨by show 128 * ((y 2).val / 128) ≤ (y 2).val; omega, by show (y 2).val < 128 * ((y 2).val / 128) + 128; omega⟩

/-! ## What each output block holds after the body -/

/-- The new weights of column group `j`. -/
def wt (i : grid0.Coords) (x0 : Vec F S3x5 .f32) (x1 : Vec F S1x128x2048 .f32) (x2 : Vec F S1x128x2048 .bf16) (x3 x4 : Vec F S1x128x2048 .f32) (j : Fin 16) : FVec F S128x128 .f32 :=
  Tile.newW (sc x0 (k0_off1 i) (k0_off1_inb i)) (sc x0 (k0_off2 i) (k0_off2_inb i)) (sc x0 (k0_off3 i) (k0_off3_inb i))
    (sub x1 j) (sub x2 j) (sub x3 j) (sub x4 j)

/-- The block of new weights. -/
def out5 (i : grid0.Coords) (x0 : Vec F S3x5 .f32) (x1 : Vec F S1x128x2048 .f32) (x2 : Vec F S1x128x2048 .bf16) (x3 x4 : Vec F S1x128x2048 .f32) : Vec F S1x128x2048 .f32 :=
  assemble fun j => shapeCast S1x128x128 (wt i x0 x1 x2 x3 x4 j) shapeCasts_S128x128_S1x128x128

/-- The block of new first moments. -/
def out6 (x2 : Vec F S1x128x2048 .bf16) (x3 : Vec F S1x128x2048 .f32) : Vec F S1x128x2048 .f32 :=
  assemble fun j => shapeCast S1x128x128 (Tile.newM (sub x2 j) (sub x3 j)) shapeCasts_S128x128_S1x128x128

/-- The block of new second moments. -/
def out7 (x2 : Vec F S1x128x2048 .bf16) (x4 : Vec F S1x128x2048 .f32) : Vec F S1x128x2048 .f32 :=
  assemble fun j => shapeCast S1x128x128 (Tile.newV (sub x2 j) (sub x4 j)) shapeCasts_S128x128_S1x128x128

/-- The block of codes. -/
def out8 (i : grid0.Coords) (x0 : Vec F S3x5 .f32) (x1 : Vec F S1x128x2048 .f32) (x2 : Vec F S1x128x2048 .bf16) (x3 x4 : Vec F S1x128x2048 .f32) : Vec F S1x128x2048 .fp8e4m3 :=
  assemble fun j => shapeCast S1x128x128 (Tile.codes (wt i x0 x1 x2 x3 x4 j)) shapeCasts_S128x128_S1x128x128

/-- The rows' magnitudes, column `j` those of column group `j` (the scratch has 128 columns; only the first 16 are read). -/
def amax (i : grid0.Coords) (x0 : Vec F S3x5 .f32) (x1 : Vec F S1x128x2048 .f32) (x2 : Vec F S1x128x2048 .bf16) (x3 x4 : Vec F S1x128x2048 .f32) : Vec F S128x128 .f32 := fun y =>
  Tile.amaxRow (wt i x0 x1 x2 x3 x4 ⟨(y 1).val % 16, Nat.mod_lt _ (by decide)⟩) (ix2 (y 0) 0)

/-- The block of row scales. -/
def out9 (i : grid0.Coords) (x0 : Vec F S3x5 .f32) (x1 : Vec F S1x128x2048 .f32) (x2 : Vec F S1x128x2048 .bf16) (x3 x4 : Vec F S1x128x2048 .f32) : Vec F S1x16x128 .f32 :=
  shapeCast S1x16x128 (Tile.scales (amax i x0 x1 x2 x3 x4)) shapeCasts_S16x128_S1x16x128

/-- The block of transposed codes. -/
def out10 (i : grid0.Coords) (x0 : Vec F S3x5 .f32) (x1 : Vec F S1x128x2048 .f32) (x2 : Vec F S1x128x2048 .bf16) (x3 x4 : Vec F S1x128x2048 .f32) : Vec F S1x2048x128 .fp8e4m3 :=
  assembleT fun j => shapeCast S1x128x128 (Tile.codesT (wt i x0 x1 x2 x3 x4 j)) shapeCasts_S128x128_S1x128x128

/-- The block of column scales, from what it held before. -/
def out11 (i : grid0.Coords) (x0 : Vec F S3x5 .f32) (x1 : Vec F S1x128x2048 .f32) (x2 : Vec F S1x128x2048 .bf16) (x3 x4 : Vec F S1x128x2048 .f32) (x11 : Vec F S1x10x2048 .f32) : Vec F S1x10x2048 .f32 :=
  assembleS fun j => shapeCast S1x10x128 (Tile.scalesT (BitVec.ofNat 32 (i 2).val) (wt i x0 x1 x2 x3 x4 j) (subS x11 j)) shapeCasts_S10x128_S1x10x128

/-! ## The run's stores, read back -/

theorem ld_eq {e : EltTy} (arg : Memref sig .tc .vmem S1x128x2048 e) (harg : arg.IsWhole) (x : Vec F S1x128x2048 e) (j : Fin 16) :
    ld arg harg x j = sub x j := funext fun y => harg.readAt_unread _ _ _

theorem scal_eq (arg3 : Memref sig .tc .smem S3x5 .f32) (harg3 : arg3.IsWhole) (x0 : Vec F S3x5 .f32) (off : Fin 2 → ℕ)
    (h : ∀ a, off a + S1x1.size a ≤ S3x5.size a) : scal arg3 harg3 x0 off h = sc x0 off h := harg3.readAt_unread _ _ _

theorem tileW_eq (i : grid0.Coords) (arg3 : Memref sig .tc .smem S3x5 .f32) (harg3 : arg3.IsWhole) (arg4 : Memref sig .tc .vmem S1x128x2048 .f32) (harg4 : arg4.IsWhole)
    (arg5 : Memref sig .tc .vmem S1x128x2048 .bf16) (harg5 : arg5.IsWhole) (arg6 : Memref sig .tc .vmem S1x128x2048 .f32) (harg6 : arg6.IsWhole)
    (arg7 : Memref sig .tc .vmem S1x128x2048 .f32) (harg7 : arg7.IsWhole) (x0 : Vec F S3x5 .f32) (x1 : Vec F S1x128x2048 .f32) (x2 : Vec F S1x128x2048 .bf16)
    (x3 : Vec F S1x128x2048 .f32) (x4 : Vec F S1x128x2048 .f32) (j : Fin 16) :
    tileW i arg3 harg3 arg4 harg4 arg5 harg5 arg6 harg6 arg7 harg7 x0 x1 x2 x3 x4 j = wt i x0 x1 x2 x3 x4 j := by
  unfold tileW wt
  rw [scal_eq, scal_eq, scal_eq, ld_eq, ld_eq, ld_eq, ld_eq]

/-- The row scales depend on the scratch's first 16 columns alone. -/
theorem scales_congr (a b : Vec F S128x128 .f32) (h : ∀ y : S128x128.Idx, (y 1).val < 16 → a y = b y) : Tile.scales a = Tile.scales b := by
  have e : (extractStridedSlice S16x128 ![0, 0] (transpose S128x128 [1, 0] a transposes_S128x128_p1_0_S128x128) slices_S128x128_o0_0_S16x128)
      = extractStridedSlice S16x128 ![0, 0] (transpose S128x128 [1, 0] b transposes_S128x128_p1_0_S128x128) slices_S128x128_o0_0_S16x128 := by
    funext y
    have hy : (y 0).val < 16 := (y 0).isLt
    pointwise
    exact h _ (by simpa using hy)
  unfold Tile.scales
  rw [e]

theorem read5 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg8.view.ty.Contents (Elt F)) :
    arg8.view.read (Elt F) (arg8.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).1) = out5 i x0 x1 x2 x3 x4 := by
  rw [pieces5, read_cols]
  simp only [tileW_eq]; rfl

theorem read6 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg9.view.ty.Contents (Elt F)) :
    arg9.view.read (Elt F) (arg9.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.1) = out6 x2 x3 := by
  rw [pieces6, read_cols]
  simp only [ld_eq]; rfl

theorem read7 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg10.view.ty.Contents (Elt F)) :
    arg10.view.read (Elt F) (arg10.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.1) = out7 x2 x4 := by
  rw [pieces7, read_cols]
  simp only [ld_eq]; rfl

theorem read8 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg11.view.ty.Contents (Elt F)) :
    arg11.view.read (Elt F) (arg11.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.1) = out8 i x0 x1 x2 x3 x4 := by
  rw [pieces8, read_cols]
  simp only [tileW_eq]; rfl

theorem read10 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg13.view.ty.Contents (Elt F)) :
    arg13.view.read (Elt F) (arg13.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.2.1) = out10 i x0 x1 x2 x3 x4 := by
  rw [pieces10, read_rows]
  simp only [tileW_eq]; rfl

theorem read11 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg14.view.ty.Contents (Elt F)) :
    arg14.view.read (Elt F) (arg14.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.2.2.1) = out11 i x0 x1 x2 x3 x4 x11 := by
  rw [pieces11, read_scales]
  simp only [tileW_eq]
  unfold out11
  refine congrArg assembleS (funext fun j => ?_)
  have e : View.readAt (Elt F) arg14.view (rectS j).toLoadRect (harg14.unread x11) = subS x11 j := funext fun y => harg14.readAt_unread _ _ _
  rw [e]

theorem read9 (c : Dev nD) (i : grid0.Coords) (arg3 : Memref sig .tc .smem S3x5 .f32) (harg3 : arg3.IsWhole) (arg4 : Memref sig .tc .vmem S1x128x2048 .f32) (harg4 : arg4.IsWhole) (arg5 : Memref sig .tc .vmem S1x128x2048 .bf16) (harg5 : arg5.IsWhole) (arg6 : Memref sig .tc .vmem S1x128x2048 .f32) (harg6 : arg6.IsWhole) (arg7 : Memref sig .tc .vmem S1x128x2048 .f32) (harg7 : arg7.IsWhole) (arg8 : Memref sig .tc .vmem S1x128x2048 .f32) (harg8 : arg8.IsWhole) (arg9 : Memref sig .tc .vmem S1x128x2048 .f32) (harg9 : arg9.IsWhole) (arg10 : Memref sig .tc .vmem S1x128x2048 .f32) (harg10 : arg10.IsWhole) (arg11 : Memref sig .tc .vmem S1x128x2048 .fp8e4m3) (harg11 : arg11.IsWhole) (arg12 : Memref sig .tc .vmem S1x16x128 .f32) (harg12 : arg12.IsWhole) (arg13 : Memref sig .tc .vmem S1x2048x128 .fp8e4m3) (harg13 : arg13.IsWhole) (arg14 : Memref sig .tc .vmem S1x10x2048 .f32) (harg14 : arg14.IsWhole) (arg15 : Memref sig .tc .vmem S128x128 .f32) (harg15 : arg15.IsWhole) (x0 : Vec F S3x5 .f32) (x1 : Vec F S1x128x2048 .f32) (x2 : Vec F S1x128x2048 .bf16) (x3 : Vec F S1x128x2048 .f32) (x4 : Vec F S1x128x2048 .f32) (x11 : Vec F S1x10x2048 .f32) (xs : Vec F S128x128 .f32) (f : arg12.view.ty.Contents (Elt F)) :
    arg12.view.read (Elt F) (arg12.view.writes (Elt F) f (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x11 xs).2.2.2.2.1) = out9 i x0 x1 x2 x3 x4 := by
  rw [pieces9, View.read_writes_eq_canon, View.canon_unit_zero]
  · unfold out9
    refine congrArg (fun a => shapeCast S1x16x128 a shapeCasts_S16x128_S1x16x128) (scales_congr _ _ fun y hy => ?_)
    have ez : (Rect.unit ![0, 0] S128x128.size inb_S128x128_S128x128_0_0).toLoadRect.idx y = y := by
      funext a
      refine Fin.ext ((Rect.idx_unit_val _ _ _ y a).trans ?_)
      match a with
      | ⟨0, _⟩ => exact Nat.zero_add _
      | ⟨1, _⟩ => exact Nat.zero_add _
    show arg15.view.read (Elt F) _ _ = _
    erw [ez]
    have hc : ∃ p ∈ amaxPieces i arg3 harg3 arg4 harg4 arg5 harg5 arg6 harg6 arg7 harg7 x0 x1 x2 x3 x4, y ∈ p.1.set := by
      refine ⟨_, List.mem_map.2 ⟨⟨(y 1).val, hy⟩, mem_cols _, rfl⟩, ?_⟩
      show y ∈ (rectA ⟨(y 1).val, hy⟩).set
      rw [Rect.mem_set_unit]
      intro a
      have h0 : (y 0).val < 128 := (y 0).isLt
      match a with
      | ⟨0, _⟩ => exact ⟨Nat.zero_le _, by show (y 0).val < 0 + 128; omega⟩
      | ⟨1, _⟩ => exact ⟨Nat.le_refl _, Nat.lt_succ_self _⟩
    rw [View.read_writes_apply_eq_canon _ _ _ _ hc]
    refine View.canon_apply_of_pieces (amax i x0 x1 x2 x3 x4) (amaxPieces i arg3 harg3 arg4 harg4 arg5 harg5 arg6 harg6 arg7 harg7 x0 x1 x2 x3 x4) ?_ y hc
    intro p hp x
    obtain ⟨j, -, rfl⟩ := List.mem_map.1 hp
    have hx : (x 1).val < 1 := (x 1).isLt
    have e1 : (((rectA j).emb x) 1).val = j.val + (x 1).val := Rect.idx_unit_val _ _ _ x 1
    have e0 : (((rectA j).emb x) 0).val = 0 + (x 0).val := Rect.idx_unit_val _ _ _ x 0
    dsimp only
    rw [tileW_eq]
    unfold amax
    have hj : (⟨(((rectA j).emb x) 1).val % 16, Nat.mod_lt _ (by decide)⟩ : Fin 16) = j := by
      apply Fin.ext; show (((rectA j).emb x) 1).val % 16 = j.val; have := j.isLt; omega
    have hl : (ix2 (((rectA j).emb x) 0) 0 : S128x1.Idx) = x := by
      funext a
      match a with
      | ⟨0, _⟩ => apply Fin.ext; show (((rectA j).emb x) 0).val = (x 0).val; omega
      | ⟨1, _⟩ => exact fin1_eq rfl _ _
    rw [hj, hl, shapeCast_id]
  · funext a
    match a with
    | ⟨0, _⟩ => rfl
    | ⟨1, _⟩ => rfl
    | ⟨2, _⟩ => rfl
  · intro y
    refine ⟨_, List.mem_singleton_self _, ?_⟩
    show y ∈ (Rect.unit ![0, 0, 0] S1x16x128.size inb_S1x16x128_S1x16x128_0_0_0).set
    rw [Rect.mem_set_unit]
    intro a
    have h0 : (y 0).val < 1 := (y 0).isLt
    have h1 : (y 1).val < 16 := (y 1).isLt
    have h2 : (y 2).val < 128 := (y 2).isLt
    match a with
    | ⟨0, _⟩ => exact ⟨Nat.zero_le _, by show (y 0).val < 0 + 1; omega⟩
    | ⟨1, _⟩ => exact ⟨Nat.zero_le _, by show (y 1).val < 0 + 16; omega⟩
    | ⟨2, _⟩ => exact ⟨Nat.zero_le _, by show (y 2).val < 0 + 128; omega⟩

end Cert.KernelIdeal.Block

end
-- ==== Proof.Run.lean ====
/- The run of the whole pipeline: what each window's buffer holds after the body at each point, the body's triple, and
   the launch. The column scales' block is revisited along the row axis of the grid; what it holds after a point is
   the recursion `st`. -/
module

public import proofs.«01_k».proof.Proof.Blocks
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Body Cert.KernelIdeal.Block

/-! ## The column scales' block, point by point -/

/-- The third grid coordinate is the fastest. -/
theorem coord2 : ∀ t : Fin cfg0.N, ((grid0.coords t) 2).val = t.val % 10 :=
  (by decide +kernel : ∀ t : Fin grid0.N, ((grid0.coords t) 2).val = t.val % 10)

/-- The mask of rows not yet fixed. -/
theorem mask_apply (k r : Fin 10) :
    IntOp.cmpi .sge (BitVec.ofNat 32 k.val) (BitVec.ofNat 32 r.val) = if r.val ≤ k.val then 1#1 else 0#1 := by revert k r; decide

/-- The column scales after row group `r`, at an index: the rows from `r` on are the tile's, the rows before are kept. -/
theorem scalesT_apply (r : Fin 10) (w : FVec F S128x128 .f32) (before : Vec F S1x10x128 .f32) (y : S10x128.Idx) :
    Tile.scalesT (BitVec.ofNat 32 r.val) w before y =
      if r.val ≤ (y 0).val then Tile.scale (Tile.amaxCol w) (ix2 0 (y 1)) else before (ix3 0 (y 0) (y 1)) := by
  have hm := mask_apply (y 0) r
  unfold Tile.scalesT
  pointwise
  by_cases h : r.val ≤ (y 0).val
  · rw [if_pos h] at hm ⊢; rw [hm]; rfl
  · rw [if_neg h] at hm ⊢; rw [hm]; rfl

/-- At the first row group nothing of the block before is kept. -/
theorem scalesT_first (w : FVec F S128x128 .f32) (a b : Vec F S1x10x128 .f32) :
    Tile.scalesT (BitVec.ofNat 32 0) w a = Tile.scalesT (BitVec.ofNat 32 0) w b := by
  funext y
  have ha := scalesT_apply 0 w a y
  have hb := scalesT_apply 0 w b y
  exact ha.trans hb.symm

theorem out11_first (i : grid0.Coords) (hi : (i 2).val = 0) (x0 : Vec F S3x5 .f32) (x1 : Vec F S1x128x2048 .f32) (x2 : Vec F S1x128x2048 .bf16)
    (x3 x4 : Vec F S1x128x2048 .f32) (a b : Vec F S1x10x2048 .f32) : out11 i x0 x1 x2 x3 x4 a = out11 i x0 x1 x2 x3 x4 b := by
  unfold out11
  rw [hi]
  refine congrArg assembleS (funext fun j => ?_)
  rw [scalesT_first]

/-- The column scales' block after point `n`. -/
def st (c : Dev nD) : (n : ℕ) → n < cfg0.N → Vec F S1x10x2048 .f32
  | 0, h => out11 (grid0.coords ⟨0, h⟩) (iblk m c 0 ⟨0, h⟩) (iblk m c 1 ⟨0, h⟩) (iblk m c 2 ⟨0, h⟩) (iblk m c 3 ⟨0, h⟩) (iblk m c 4 ⟨0, h⟩)
      (fun _ => Scalar.ofBits .f32 0#32)
  | n + 1, h => out11 (grid0.coords ⟨n + 1, h⟩) (iblk m c 0 ⟨n + 1, h⟩) (iblk m c 1 ⟨n + 1, h⟩) (iblk m c 2 ⟨n + 1, h⟩) (iblk m c 3 ⟨n + 1, h⟩)
      (iblk m c 4 ⟨n + 1, h⟩) (st c n (Nat.lt_of_succ_lt h))

/-! ## The pipeline's proof data -/

/-- The arrays as the region finds them; after the body at a point each input's buffer at its block and each output's
    at what the body leaves; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (grid0.coords t) (iblk m c 0 t) (iblk m c 1 t) (iblk m c 2 t) (iblk m c 3 t) (iblk m c 4 t)
    | ⟨6, _⟩ => out6 (iblk m c 2 t) (iblk m c 3 t)
    | ⟨7, _⟩ => out7 (iblk m c 2 t) (iblk m c 4 t)
    | ⟨8, _⟩ => out8 (grid0.coords t) (iblk m c 0 t) (iblk m c 1 t) (iblk m c 2 t) (iblk m c 3 t) (iblk m c 4 t)
    | ⟨9, _⟩ => out9 (grid0.coords t) (iblk m c 0 t) (iblk m c 1 t) (iblk m c 2 t) (iblk m c 3 t) (iblk m c 4 t)
    | ⟨10, _⟩ => out10 (grid0.coords t) (iblk m c 0 t) (iblk m c 1 t) (iblk m c 2 t) (iblk m c 3 t) (iblk m c 4 t)
    | ⟨11, _⟩ => st m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 (grid0.coords t) (iblk m c 0 t) (iblk m c 1 t) (iblk m c 2 t) (iblk m c 3 t) (iblk m c 4 t) := by dsimp only [dats]
theorem after0_6 (c : Dev nD) (t : Fin cfg0.N) : (dats m 0 c).after 6 t = out6 (iblk m c 2 t) (iblk m c 3 t) := by dsimp only [dats]
theorem after0_7 (c : Dev nD) (t : Fin cfg0.N) : (dats m 0 c).after 7 t = out7 (iblk m c 2 t) (iblk m c 4 t) := by dsimp only [dats]
theorem after0_8 (c : Dev nD) (t : Fin cfg0.N) : (dats m 0 c).after 8 t = out8 (grid0.coords t) (iblk m c 0 t) (iblk m c 1 t) (iblk m c 2 t) (iblk m c 3 t) (iblk m c 4 t) := by dsimp only [dats]
theorem after0_9 (c : Dev nD) (t : Fin cfg0.N) : (dats m 0 c).after 9 t = out9 (grid0.coords t) (iblk m c 0 t) (iblk m c 1 t) (iblk m c 2 t) (iblk m c 3 t) (iblk m c 4 t) := by dsimp only [dats]
theorem after0_10 (c : Dev nD) (t : Fin cfg0.N) : (dats m 0 c).after 10 t = out10 (grid0.coords t) (iblk m c 0 t) (iblk m c 1 t) (iblk m c 2 t) (iblk m c 3 t) (iblk m c 4 t) := by dsimp only [dats]
theorem after0_11 (c : Dev nD) (t : Fin cfg0.N) : (dats m 0 c).after 11 t = st m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Whatever the buffer is handed with, the body leaves the column scales at the recursion's value. -/
theorem out11_before (c : Dev nD) (t : Fin cfg0.N) (d) :
    out11 (grid0.coords t) (iblk m c 0 t) (iblk m c 1 t) (iblk m c 2 t) (iblk m c 3 t) (iblk m c 4 t) ((dats m 0 c).before 11 t d) = st m c t.val t.isLt := by
  obtain ⟨n, hn⟩ := t
  cases n with
  | zero =>
    exact out11_first _ (coord2 ⟨0, hn⟩) _ _ _ _ _ _ _
  | succ n =>
    by_cases h0 : (n + 1) % 10 = 0
    · exact out11_first _ ((coord2 ⟨n + 1, hn⟩).trans h0) _ _ _ _ _ _ _
    · have hfl : (cfg0.win 11).flush ⟨n, Nat.lt_of_succ_lt hn⟩ = false := by
        rw [Bool.eq_false_iff]
        intro h
        have := (flush0_11 ⟨n, Nat.lt_of_succ_lt hn⟩).1 h
        dsimp only at this
        omega
      have hb : (dats m 0 c).before 11 ⟨n + 1, hn⟩ d = (dats m 0 c).after 11 ⟨n, Nat.lt_of_succ_lt hn⟩ :=
        (dats m 0 c).before_out_kept 11 rfl ⟨n + 1, hn⟩ (Nat.succ_ne_zero n) hfl (fun _ => rfl) (fun _ _ => rfl) d
      rw [hb, after0_11]
      rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨%xs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) ((dats m 0 c).before 11 t d11) xs).2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexact H11
  isplitl [HS0]; · iexact HS0
  iintro ⟨H0, H1, H2, H3, H4, ⟨%e5, H5⟩, ⟨%e6, H6⟩, ⟨%e7, H7⟩, ⟨%e8, H8⟩, ⟨%e9, H9⟩, ⟨%e10, H10⟩, ⟨%e11, H11⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read5 c _ _ _ _ _ _ _ _ _ _ _ _ _ _ _ _ _ _ _ _ _ _ _ _ _ _ _ _ _ _ _ _ _ _ e5
  isplitl [H6]
  · unfold owns; iexists _; isplitr
    swap; · iexact H6
    ipureintro; exact read6 c _ _ _ _ _ _ _ _ _ _ _ _ _ _ _ _ _ _ _ _ _ _ _ _ _ _ _ _ _ _ _ _ _ _ e6
  isplitl [H7]
  · unfold owns; iexists _; isplitr
    swap; · iexact H7
    ipureintro; exact read7 c _ _ _ _ _ _ _ _ _ _ _ _ _ _ _ _ _ _ _ _ _ _ _ _ _ _ _ _ _ _ _ _ _ _ e7
  isplitl [H8]
  · unfold owns; iexists _; isplitr
    swap; · iexact H8
    ipureintro; exact read8 c _ _ _ _ _ _ _ _ _ _ _ _ _ _ _ _ _ _ _ _ _ _ _ _ _ _ _ _ _ _ _ _ _ _ e8
  isplitl [H9]
  · unfold owns; iexists _; isplitr
    swap; · iexact H9
    ipureintro; exact read9 c _ _ _ _ _ _ _ _ _ _ _ _ _ _ _ _ _ _ _ _ _ _ _ _ _ _ _ _ _ _ _ _ _ _ e9
  isplitl [H10]
  · unfold owns; iexists _; isplitr
    swap; · iexact H10
    ipureintro; exact read10 c _ _ _ _ _ _ _ _ _ _ _ _ _ _ _ _ _ _ _ _ _ _ _ _ _ _ _ _ _ _ _ _ _ _ e10
  unfold owns; iexists _; isplitr
  swap; · iexact H11
  ipureintro; exact (read11 c _ _ _ _ _ _ _ _ _ _ _ _ _ _ _ _ _ _ _ _ _ _ _ _ _ _ _ _ _ _ _ _ _ _ e11).trans (out11_before m c t d11)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.Spec.lean ====
/- The function both programs compute, over the extended reals and index by index: the optimiser's update, the
   largest magnitudes of the groups along each axis, the power-of-two scale of a group, the codes. -/
module

public import Idealize.ShloMosaic.PureOps.Ideal
public import Idealize.ShloMosaic.Lib.Pointwise

@[expose] public section

noncomputable section

namespace Cert.Spec

open Idealize.ShloMosaic

/-! ## One element of the update -/

/-- The new first moment. -/
def newM (g m : EReal) : EReal := Ideal.ofBits .f32 0x3F666666#32 * m + Ideal.ofBits .f32 0x3DCCCCCD#32 * g

/-- The new second moment. -/
def newV (g v : EReal) : EReal := Ideal.ofBits .f32 0x3F733333#32 * v + Ideal.ofBits .f32 0x3D4CCCCD#32 * g * g

/-- A bias correction `1 - beta ^ step`, from the bits of `beta`. -/
def bias (beta : BitVec 32) (step : BitVec 32) : EReal :=
  1 - Ideal.pow (Ideal.ofBits .f32 beta) (FloatOps.sitofp (F := Ideal) .f32 step)

/-- What the weight is multiplied by. -/
def decay (lr : EReal) : EReal := 1 - lr * Ideal.ofBits .f32 0x3DCCCCCD#32

/-- The new weight. -/
def newW (lr : EReal) (step : BitVec 32) (w g m v : EReal) : EReal :=
  w * decay lr - Ideal.div lr (bias 0x3F666666#32 step)
    * Ideal.div (newM g m) (Ideal.div (Ideal.sqrt (newV g v)) (Ideal.sqrt (bias 0x3F733333#32 step)) + Ideal.ofBits .f32 0x322BCC77#32)

/-! ## The power of two of a group, from its largest magnitude -/

/-- The largest magnitude over 448. -/
def part (a : EReal) : EReal := a * Ideal.ofBits .f32 0x3B124925#32

open Classical in
/-- The exponent of a group: that of the part when it is a normal number, else zero. -/
def expo (a : EReal) : EReal :=
  if part a < Ideal.ofBits .f32 0x00800000#32 ∨ Ideal.ofBits .f32 0x7F7FFFFF#32 < a then 0
  else Ideal.liftRound Int.floor (Ideal.div (Ideal.log (part a)) (Ideal.log (Ideal.ofBits .f32 0x40000000#32))) + 1

/-- The group's scale. -/
def scale (a : EReal) : EReal := Ideal.pow (Ideal.ofBits .f32 0x40000000#32) (expo a)

/-- The reciprocal of the group's scale. -/
def inv (a : EReal) : EReal := Ideal.pow (Ideal.ofBits .f32 0x40000000#32) (-expo a)

/-- An element's code in a group of largest magnitude `a`. -/
def code (x a : EReal) : EReal :=
  min (Ideal.ofBits .f32 0x43E00000#32) (max (Ideal.ofBits .f32 0xC3E00000#32) (x * inv a))

/-! ## The arrays -/

section Arrays

/-- The new weights, from the six argument arrays. -/
def weights (w : (⟨3, ![5, 1280, 8192]⟩ : Shape).Idx → EReal) (g m v : (⟨3, ![5, 1280, 8192]⟩ : Shape).Idx → EReal)
    (lr : (⟨1, ![5]⟩ : Shape).Idx → EReal) (step : (⟨1, ![5]⟩ : Shape).Idx → BitVec 32) (b : Fin 5) (i : Fin 1280) (j : Fin 8192) : EReal :=
  newW (lr (ix1 b)) (step (ix1 b)) (w (ix3 b i j)) (g (ix3 b i j)) (m (ix3 b i j)) (v (ix3 b i j))

variable (u : Fin 5 → Fin 1280 → Fin 8192 → EReal)

/-- The largest magnitude of columns `128 J` to `128 J + 127` of row `i`. -/
def rowMax (b : Fin 5) (i : Fin 1280) (J : Fin 64) : EReal :=
  Finset.univ.fold max (Ideal.ofBits .f32 0xFF800000#32)
    fun k : Fin 128 => FloatOps.absf (F := Ideal) (φ := .f32) (u b i ⟨J.val * 128 + k.val, by omega⟩)

/-- The largest magnitude of rows `128 I` to `128 I + 127` of column `j`. -/
def colMax (b : Fin 5) (I : Fin 10) (j : Fin 8192) : EReal :=
  Finset.univ.fold max (Ideal.ofBits .f32 0xFF800000#32)
    fun k : Fin 128 => FloatOps.absf (F := Ideal) (φ := .f32) (u b ⟨I.val * 128 + k.val, by omega⟩ j)

/-- The codes of the groups along the rows. -/
def codes (b : Fin 5) (i : Fin 1280) (j : Fin 8192) : EReal := code (u b i j) (rowMax u b i ⟨j.val / 128, by omega⟩)

/-- The codes of the groups along the columns. -/
def codesT (b : Fin 5) (j : Fin 8192) (i : Fin 1280) : EReal := code (u b i j) (colMax u b ⟨i.val / 128, by omega⟩ j)

end Arrays

end Cert.Spec

end
-- ==== Proof.Exponent.lean ====
/- The power-of-two scale of a group on the extended reals: the kernel's search for the exponent bits finds the
   exponent the reference takes by a logarithm, so the kernel's scale and its reciprocal are powers of two with
   that exponent. -/
module

public import proofs.«01_k».proof.Proof.Tile
public import proofs.«01_k».proof.Proof.Spec
public import Idealize.ShloMosaic.Lib.Pointwise
public import Mathlib.Analysis.SpecialFunctions.Log.Basic

@[expose] public section

set_option maxRecDepth 16384

noncomputable section

namespace Cert.KernelIdeal.Exponent

open Idealize.ShloMosaic Idealize.SL.Sem
open Cert.KernelIdeal.Gen Cert.Spec

/-! ## Words with an empty fraction -/

/-- The word of exponent field `n` and fraction zero. -/
def word (n : ℕ) : BitVec 32 := BitVec.ofNat 32 (n * 8388608)

/-- The float such a word spells, when the field is that of a normal number. -/
theorem ofBits_word (n : ℕ) (h1 : 1 ≤ n) (h2 : n ≤ 254) :
    Ideal.ofBits .f32 (word n) = (((2 : ℝ) ^ ((n : ℤ) - 127) : ℝ) : EReal) := by
  have key : ∀ n : Fin 256, ((word n).extractLsb' 23 8).toNat = n.val ∧ ((word n).extractLsb' 0 23).toNat = 0
      ∧ ((word n).extractLsb' 31 1 == 1#1) = false := by decide +kernel
  obtain ⟨a, b, c⟩ := key ⟨n, by omega⟩
  dsimp only at a b c
  unfold Ideal.ofBits Ideal.ieee
  simp only [a, b, c, Nat.reduceAdd]
  rw [if_neg (by norm_num; omega), if_neg (by omega)]
  congr 1
  have : ((n : ℤ) - (2 ^ (8 - 1) - 1) - (23 : ℕ)) = ((n : ℤ) - 127) - 23 := by norm_num
  rw [this, zpow_sub₀ (by norm_num : (2 : ℝ) ≠ 0)]
  norm_num
  exact mul_div_cancel₀ _ (by norm_num)

/-- The all-ones field spells infinity. -/
theorem ofBits_word_top : Ideal.ofBits .f32 (word 255) = ⊤ := by
  simp [word, Ideal.ofBits, Ideal.ieee]

/-- Adding words with an empty fraction adds their fields. -/
theorem word_add (n k : ℕ) : word n + word k = word (n + k) := by
  simp only [word, ← BitVec.ofNat_add, ← Nat.add_mul]

/-- Subtracting them subtracts the fields. -/
theorem word_sub (n k : ℕ) (h : k ≤ n) : word n - word k = word (n - k) := by
  have : word n = word (n - k) + word k := by rw [word_add]; congr 1; omega
  rw [this, BitVec.add_sub_cancel]

/-- Two fields below 256 differ when the words do. -/
theorem word_inj (n k : ℕ) (hn : n ≤ 255) (hk : k ≤ 255) : word n = word k ↔ n = k := by
  constructor
  · intro h
    have := congrArg BitVec.toNat h
    simp only [word, BitVec.toNat_ofNat] at this
    omega
  · rintro rfl; rfl

/-! ## The search -/

/-- `N` is the exponent field of `x`: the floats spelled by the fields from 1 to `N` are those at most `x`. -/
def Field (x : EReal) (N : ℕ) : Prop := N ≤ 255 ∧ ∀ n, 1 ≤ n → n ≤ 255 → (Ideal.ofBits .f32 (word n) ≤ x ↔ n ≤ N)

section

variable {s : Shape}

/-- One step of the search, on fields. -/
theorem step_word (x : FVec Ideal s .f32) (j : s.Idx) (N : ℕ) (hN : Field (x j) N) (k : ℕ) (hk : 1 ≤ k) (c : BitVec 32)
    (hc : c = word k) (b : IVec s 32) (n : ℕ) (hb : b j = word n) (h : n + k ≤ 255) :
    Tile.step x c b j = word (if n + k ≤ N then n + k else n) := by
  have e : Tile.step x c b j
      = if (if Ideal.ofBits .f32 (b j + c) ≤ x j then (1#1 : BitVec 1) else 0#1) = 1#1 then b j + c else b j := by
    unfold Tile.step
    pointwise
    first | rfl | (simp [Scalar.select, Ideal.cmp] <;> rfl)
  rw [e, hb, hc, word_add]
  by_cases q : n + k ≤ N
  · rw [if_pos ((hN.2 (n + k) (by omega) h).2 q), if_pos rfl, if_pos q]
  · rw [if_neg (fun q' => q ((hN.2 (n + k) (by omega) h).1 q')), if_neg (by decide), if_neg q]

/-- The search finds the field. -/
theorem expBits_word (x : FVec Ideal s .f32) (j : s.Idx) (N : ℕ) (hN : Field (x j) N) : Tile.expBits x j = word N := by
  have h0 : (broadcast s (0#32 : BitVec 32) : IVec s 32) j = word 0 := rfl
  have hle := hN.1
  have h1 := step_word x j N hN 128 (by omega) 1073741824#32 (by decide) _ 0 h0 (by omega)
  have h2 := step_word x j N hN 64 (by omega) 536870912#32 (by decide) _ _ h1 (by split <;> omega)
  have h3 := step_word x j N hN 32 (by omega) 268435456#32 (by decide) _ _ h2 (by split <;> split <;> omega)
  have h4 := step_word x j N hN 16 (by omega) 134217728#32 (by decide) _ (N / 32 * 32)
    (h3.trans (congrArg word (by split <;> split <;> split <;> omega))) (by omega)
  have h5 := step_word x j N hN 8 (by omega) 67108864#32 (by decide) _ (N / 16 * 16)
    (h4.trans (congrArg word (by split <;> omega))) (by omega)
  have h6 := step_word x j N hN 4 (by omega) 33554432#32 (by decide) _ (N / 8 * 8)
    (h5.trans (congrArg word (by split <;> omega))) (by omega)
  have h7 := step_word x j N hN 2 (by omega) 16777216#32 (by decide) _ (N / 4 * 4)
    (h6.trans (congrArg word (by split <;> omega))) (by omega)
  have h8 := step_word x j N hN 1 (by omega) 8388608#32 (by decide) _ (N / 2 * 2)
    (h7.trans (congrArg word (by split <;> omega))) (by omega)
  exact h8.trans (congrArg word (by split <;> omega))

end

/-! ## The field of a number -/

/-- Below the smallest normal number the field is zero. -/
theorem field_zero (x : EReal) (h : x < (((2 : ℝ) ^ (-126 : ℤ) : ℝ) : EReal)) : Field x 0 := by
  refine ⟨by omega, fun n h1 h2 => ⟨fun q => ?_, fun q => by omega⟩⟩
  exfalso
  rcases Nat.lt_or_ge n 255 with hn | hn
  · rw [ofBits_word n h1 (by omega)] at q
    have := lt_of_le_of_lt q h
    rw [EReal.coe_lt_coe_iff, zpow_lt_zpow_iff_right₀ (by norm_num)] at this
    omega
  · obtain rfl : n = 255 := by omega
    rw [ofBits_word_top, top_le_iff] at q
    rw [q] at h
    exact absurd h (by simp)

/-- The floor of the binary logarithm. -/
def lg (r : ℝ) : ℤ := ⌊Real.log r / Real.log 2⌋

/-- A power of two is at most `r` when its exponent is at most the logarithm's floor. -/
theorem zpow_le (r : ℝ) (h : 0 < r) (n : ℤ) : (2 : ℝ) ^ n ≤ r ↔ n ≤ lg r := by
  have l2 : 0 < Real.log 2 := Real.log_pos (by norm_num)
  rw [lg, Int.le_floor, le_div_iff₀ l2, ← Real.log_zpow, Real.log_le_log_iff (by positivity) h]

/-- The field of a normal number is its binary logarithm, biased. -/
theorem field_log (r : ℝ) (h : (2 : ℝ) ^ (-126 : ℤ) ≤ r) (h' : r < (2 : ℝ) ^ (120 : ℤ)) :
    Field (r : EReal) (lg r + 127).toNat ∧ -126 ≤ lg r ∧ lg r < 120 := by
  have hr : 0 < r := lt_of_lt_of_le (by positivity) h
  have lo : -126 ≤ lg r := (zpow_le r hr _).1 h
  have hi : lg r < 120 := by rw [← not_le, ← zpow_le r hr]; exact not_le.2 h'
  refine ⟨⟨by omega, fun n h1 h2 => ?_⟩, lo, hi⟩
  rcases Nat.lt_or_ge n 255 with hn | hn
  · rw [ofBits_word n h1 (by omega), EReal.coe_le_coe_iff]
    rw [zpow_le r hr]
    omega
  · obtain rfl : n = 255 := by omega
    rw [ofBits_word_top, top_le_iff]
    constructor
    · intro q; exact absurd q (EReal.coe_ne_top r)
    · intro q; omega

/-! ## The exponent as the reference takes it -/

theorem tiny_eq : Ideal.ofBits .f32 0x00800000#32 = (((2 : ℝ) ^ (-126 : ℤ) : ℝ) : EReal) := by
  have := ofBits_word 1 (by omega) (by omega)
  norm_num at this ⊢
  exact this

theorem two_eq : Ideal.ofBits .f32 0x40000000#32 = ((2 : ℝ) : EReal) := by
  have := ofBits_word 128 (by omega) (by omega)
  norm_num at this ⊢
  exact this

/-- A finite magnitude is a real number whose part stays below `2 ^ 120`. -/
theorem part_lt (a : EReal) (h : a ≤ Ideal.ofBits .f32 0x7F7FFFFF#32) (h' : Ideal.ofBits .f32 0x00800000#32 ≤ part a) :
    ∃ r : ℝ, part a = r ∧ (2 : ℝ) ^ (-126 : ℤ) ≤ r ∧ r < (2 : ℝ) ^ (120 : ℤ) := by
  have hc : Ideal.ofBits .f32 0x3B124925#32 = (((9586981 : ℝ) * (2 : ℝ) ^ (-32 : ℤ) : ℝ) : EReal) := by
    simp [Ideal.ofBits, Ideal.ieee, -EReal.coe_mul]
  have hm : Ideal.ofBits .f32 0x7F7FFFFF#32 = (((16777215 : ℝ) * (2 : ℝ) ^ (104 : ℤ) : ℝ) : EReal) := by
    simp [Ideal.ofBits, Ideal.ieee, -EReal.coe_mul]
  rw [tiny_eq] at h'
  rw [hm] at h
  induction a with
  | bot =>
    exfalso
    rw [part, hc, EReal.bot_mul_coe_of_pos (by positivity)] at h'
    simp at h'
  | top => exact absurd h (by rw [top_le_iff]; exact EReal.coe_ne_top _)
  | coe r =>
    refine ⟨r * (9586981 * (2 : ℝ) ^ (-32 : ℤ)), by rw [part, hc, ← EReal.coe_mul], ?_, ?_⟩
    · rw [part, hc, ← EReal.coe_mul, EReal.coe_le_coe_iff] at h'
      exact h'
    · rw [EReal.coe_le_coe_iff] at h
      norm_num at h ⊢
      linarith

/-- The binary logarithm's floor by a quotient of logarithms. -/
theorem floor_log (r : ℝ) (h : 0 < r) :
    Ideal.liftRound Int.floor (Ideal.div (Ideal.log (r : EReal)) (Ideal.log ((2 : ℝ) : EReal))) = ((lg r : ℝ) : EReal) := by
  have l2 : Real.log 2 ≠ 0 := (Real.log_pos (by norm_num)).ne'
  have e1 : Ideal.log (r : EReal) = (Real.log r : EReal) := by
    show (if r ≤ 0 then ⊥ else (Real.log r : EReal)) = _
    rw [if_neg (not_le.2 h)]
  have e2 : Ideal.log ((2 : ℝ) : EReal) = (Real.log 2 : EReal) := by
    show (if (2 : ℝ) ≤ 0 then ⊥ else (Real.log 2 : EReal)) = _
    rw [if_neg (by norm_num)]
  rw [e1, e2, Ideal.div, if_neg (by exact_mod_cast l2), ← EReal.coe_inv, ← EReal.coe_mul, ← div_eq_mul_inv]
  rfl

/-! ## The kernel's scale and its reciprocal -/

theorem pow_two (n : ℤ) : Ideal.pow (Ideal.ofBits .f32 0x40000000#32) ((n : ℝ) : EReal) = (((2 : ℝ) ^ n : ℝ) : EReal) := by
  rw [two_eq]
  show ((Real.rpow 2 (n : ℝ) : ℝ) : EReal) = _
  rw [Real.rpow_eq_pow, Real.rpow_intCast]

section

variable {s : Shape}

/-- The group's word, and its exponent: a field from 1 to 253 and the field's value. -/
theorem word_field (a : FVec Ideal s .f32) (j : s.Idx) :
    ∃ n : ℕ, 1 ≤ n ∧ n ≤ 252 ∧ Tile.word a j = word n ∧ expo (a j) = ((((n : ℤ) - 126 : ℤ) : ℝ) : EReal) := by
  have hw : Tile.word a j = if Tile.biased a j ≠ 0#32 ∧ Tile.biased a j ≠ 2139095040#32 then Tile.biased a j else 1056964608#32 := by
    unfold Tile.word
    generalize Tile.biased a = b
    pointwise
    by_cases p : b j = 0#32 <;> by_cases q : b j = 2139095040#32 <;>
      simp [Scalar.select, IntOp.andi, IntOp.cmpi, bne_iff_ne, bne, beq_eq_false_iff_ne.2, p, q]
  have hb : Tile.biased a j = if a j ≤ Ideal.ofBits .f32 0x7F7FFFFF#32
      then Tile.expBits (mulf a (broadcast s (Scalar.ofBits (F := Ideal) .f32 0x3B124925#32))) j else 2139095040#32 := by
    unfold Tile.biased
    generalize Tile.expBits (mulf a (broadcast s (Scalar.ofBits (F := Ideal) .f32 0x3B124925#32))) = b
    pointwise
  have hx : (mulf a (broadcast s (Scalar.ofBits (F := Ideal) .f32 0x3B124925#32))) j = part (a j) := rfl
  by_cases hm : a j ≤ Ideal.ofBits .f32 0x7F7FFFFF#32
  · rw [if_pos hm] at hb
    by_cases ht : part (a j) < Ideal.ofBits .f32 0x00800000#32
    · refine ⟨126, by omega, by omega, ?_, ?_⟩
      · rw [hw, hb, expBits_word _ j 0 (by rw [hx]; exact field_zero _ (by rw [← tiny_eq]; exact ht))]
        decide
      · rw [expo, if_pos (.inl ht)]; norm_num
    · obtain ⟨r, hr, h1, h2⟩ := part_lt (a j) hm (not_lt.1 ht)
      obtain ⟨hf, lo, hi⟩ := field_log r h1 h2
      have hr0 : 0 < r := lt_of_lt_of_le (by positivity) h1
      refine ⟨(lg r + 127).toNat, by omega, by omega, ?_, ?_⟩
      · rw [hw, hb, expBits_word _ j _ (by rw [hx, hr]; exact hf), if_pos]
        refine ⟨fun q => ?_, fun q => ?_⟩
        · have := (word_inj _ 0 (by omega) (by omega)).1 (q.trans (by decide))
          omega
        · have := (word_inj _ 255 (by omega) (by omega)).1 (q.trans (by decide))
          omega
      · rw [expo, if_neg (by push Not; exact ⟨not_lt.1 ht, hm⟩), hr, two_eq, floor_log r hr0, ← EReal.coe_one, ← EReal.coe_add]
        congr 1
        have : (((lg r + 127).toNat : ℕ) : ℤ) = lg r + 127 := Int.toNat_of_nonneg (by omega)
        rw [this]
        push_cast
        ring
  · refine ⟨126, by omega, by omega, ?_, ?_⟩
    · rw [hw, hb, if_neg hm]; decide
    · rw [expo, if_pos (.inr (not_le.1 hm))]; norm_num

/-- The kernel's scale is two to the exponent. -/
theorem scale_eq (a : FVec Ideal s .f32) (j : s.Idx) :
    Tile.scale a j = scale (a j) := by
  obtain ⟨n, h1, h2, hw, he⟩ := word_field a j
  have : Tile.scale a j = Ideal.ofBits .f32 (Tile.word a j + 8388608#32) := rfl
  rw [this, hw, Spec.scale, he, pow_two, show (8388608#32 : BitVec 32) = word 1 by decide, word_add, ofBits_word _ (by omega) (by omega)]
  congr 2
  push_cast
  ring

/-- The kernel's reciprocal is two to the exponent's negative. -/
theorem inv_eq (a : FVec Ideal s .f32) (j : s.Idx) :
    Tile.inv a j = inv (a j) := by
  obtain ⟨n, h1, h2, hw, he⟩ := word_field a j
  have : Tile.inv a j = Ideal.ofBits .f32 (2122317824#32 - Tile.word a j) := rfl
  have hneg : -(((((n : ℤ) - 126 : ℤ) : ℝ) : EReal)) = (((126 - (n : ℤ) : ℤ) : ℝ) : EReal) := by
    rw [← EReal.coe_neg]; congr 1; push_cast; ring
  rw [this, hw, Spec.inv, he, hneg, pow_two, show (2122317824#32 : BitVec 32) = word 253 by decide, word_sub _ _ (by omega),
    ofBits_word _ (by omega) (by omega)]
  congr 2
  omega

end

end Cert.KernelIdeal.Exponent

end
-- ==== Proof.TileValue.lean ====
/- One tile of the kernel, read at an index: the specification's functions of the tile's entries. -/
module

public import proofs.«01_k».proof.Proof.Blocks
public import proofs.«01_k».proof.Proof.Exponent

@[expose] public section

set_option maxRecDepth 16384

noncomputable section

namespace Cert.KernelIdeal.TileValue

open Idealize.ShloMosaic Idealize.ShloMosaic.TcCoe Idealize.SL.Sem
open Cert.KernelIdeal.Gen Cert.KernelIdeal

/-! ## The update -/

theorem newM_at (g : Vec Ideal S1x128x128 .bf16) (m : Vec Ideal S1x128x128 .f32) (a b : Fin 128) :
    Tile.newM g m (ix2 a b) = Spec.newM (g (ix3 0 a b)) (m (ix3 0 a b)) := by
  pointwise [Tile.newM, Tile.grad, Spec.newM]

theorem newV_at (g : Vec Ideal S1x128x128 .bf16) (v : Vec Ideal S1x128x128 .f32) (a b : Fin 128) :
    Tile.newV g v (ix2 a b) = Spec.newV (g (ix3 0 a b)) (v (ix3 0 a b)) := by
  pointwise [Tile.newV, Tile.grad, Spec.newV]

/-- The new weight from the layer's three scalars. -/
def weight (c0 c1 c2 w g m v : EReal) : EReal :=
  w * c0 - c1 * Ideal.div (Spec.newM g m) (Ideal.sqrt (Spec.newV g v) * c2 + Ideal.ofBits .f32 0x322BCC77#32)

theorem newW_at (c0 c1 c2 : Elt Ideal .f32) (w : Vec Ideal S1x128x128 .f32) (g : Vec Ideal S1x128x128 .bf16) (m v : Vec Ideal S1x128x128 .f32)
    (a b : Fin 128) : Tile.newW c0 c1 c2 w g m v (ix2 a b) = weight c0 c1 c2 (w (ix3 0 a b)) (g (ix3 0 a b)) (m (ix3 0 a b)) (v (ix3 0 a b)) := by
  pointwise [Tile.newW, newM_at, newV_at, weight]

/-! ## The magnitudes -/

/-- The largest magnitude of a family of 128. -/
def largest (f : Fin 128 → EReal) : EReal :=
  Finset.univ.fold max (Ideal.ofBits .f32 0xFF800000#32) fun k => FloatOps.absf (F := Ideal) (φ := .f32) (f k)

theorem amaxRow_at (w : FVec Ideal S128x128 .f32) (a : Fin 128) : Tile.amaxRow w (ix2 a 0) = largest fun k => w (ix2 a k) := by
  pointwise [Tile.amaxRow, largest]

theorem amaxCol_at (w : FVec Ideal S128x128 .f32) (b : Fin 128) : Tile.amaxCol w (ix2 0 b) = largest fun k => w (ix2 k b) := by
  pointwise [Tile.amaxCol, largest]

/-! ## The codes and the scales -/

theorem codes_at (w : FVec Ideal S128x128 .f32) (a b : Fin 128) :
    Tile.codes w (ix2 a b) = Spec.code (w (ix2 a b)) (largest fun k => w (ix2 a k)) := by
  pointwise [Tile.codes, Tile.cast, Spec.code]
  rw [Exponent.inv_eq, amaxRow_at]

theorem codesT_at (w : FVec Ideal S128x128 .f32) (a b : Fin 128) :
    Tile.codesT w (ix2 b a) = Spec.code (w (ix2 a b)) (largest fun k => w (ix2 k b)) := by
  pointwise [Tile.codesT, Tile.cast, Spec.code]
  rw [Exponent.inv_eq, amaxCol_at]

theorem scales_at (x : Vec Ideal S128x128 .f32) (j : Fin 16) (a : Fin 128) :
    Tile.scales x (ix2 j a) = Spec.scale (x (ix2 a ⟨j.val, by omega⟩)) := by
  unfold Tile.scales
  rw [Exponent.scale_eq]
  congr 1
  pointwise

end Cert.KernelIdeal.TileValue

end
-- ==== Proof.BlockValue.lean ====
/- What the body leaves in each block, read at an index: the specification's functions of the blocks' entries, with the
   layer's three scalars still those of the table. -/
module

public import proofs.«01_k».proof.Proof.TileValue

@[expose] public section

set_option maxRecDepth 16384

noncomputable section

namespace Cert.KernelIdeal.BlockValue

open Idealize.ShloMosaic Idealize.ShloMosaic.TcCoe Idealize.SL.Sem
open Cert.KernelIdeal.Gen Cert.KernelIdeal Cert.KernelIdeal.Block Cert.KernelIdeal.Body Cert.KernelIdeal.TileValue

/-! ## Reads of a block -/

/-- The column `128 j + b` of a block of 2048 columns. -/
abbrev col (j : Fin 16) (b : Fin 128) : Fin 2048 := ⟨128 * j.val + b.val, by omega⟩

/-- The column group and the column in it of a column. -/
abbrev grp (q : Fin 2048) : Fin 16 := ⟨q.val / 128, by omega⟩
abbrev low (q : Fin 2048) : Fin 128 := ⟨q.val % 128, by omega⟩

theorem col_grp_low (q : Fin 2048) : col (grp q) (low q) = q := Fin.ext (Nat.div_add_mod _ _)

theorem sub_at {α : Type} (x : S1x128x2048.Idx → α) (j : Fin 16) (a b : Fin 128) : sub x j (ix3 0 a b) = x (ix3 0 a (col j b)) := by
  refine congrArg x (funext fun d => ?_)
  match d with
  | ⟨0, _⟩ => exact fin1_eq rfl _ _
  | ⟨1, _⟩ => exact Fin.ext ((Rect.idx_unit_val _ _ _ _ _).trans (Nat.zero_add _))
  | ⟨2, _⟩ => exact Fin.ext (Rect.idx_unit_val _ _ _ _ _)

theorem subS_at {α : Type} (x : S1x10x2048.Idx → α) (j : Fin 16) (r : Fin 10) (b : Fin 128) : subS x j (ix3 0 r b) = x (ix3 0 r (col j b)) := by
  refine congrArg x (funext fun d => ?_)
  match d with
  | ⟨0, _⟩ => exact fin1_eq rfl _ _
  | ⟨1, _⟩ => exact Fin.ext ((Rect.idx_unit_val _ _ _ _ _).trans (Nat.zero_add _))
  | ⟨2, _⟩ => exact Fin.ext (Rect.idx_unit_val _ _ _ _ _)

/-- A tile laid out as a block of one layer. -/
theorem cast_at {e : EltTy} (x : Vec Ideal S128x128 e) (a b : Fin 128) :
    shapeCast S1x128x128 x shapeCasts_S128x128_S1x128x128 (ix3 0 a b) = x (ix2 a b) := by
  pointwise

theorem assemble_at (e : EltTy) (P : Fin 16 → Vec Ideal S128x128 e) (a : Fin 128) (q : Fin 2048) :
    assemble (fun j => shapeCast S1x128x128 (P j) shapeCasts_S128x128_S1x128x128) (ix3 0 a q) = P (grp q) (ix2 a (low q)) :=
  cast_at (P (grp q)) a (low q)

theorem assembleT_at (e : EltTy) (P : Fin 16 → Vec Ideal S128x128 e) (q : Fin 2048) (a : Fin 128) :
    assembleT (fun j => shapeCast S1x128x128 (P j) shapeCasts_S128x128_S1x128x128) (ix3 0 q a) = P (grp q) (ix2 (low q) a) :=
  cast_at (P (grp q)) (low q) a

variable (i : grid0.Coords) (x0 : Vec Ideal S3x5 .f32) (x1 : Vec Ideal S1x128x2048 .f32) (x2 : Vec Ideal S1x128x2048 .bf16)
  (x3 x4 : Vec Ideal S1x128x2048 .f32)

/-! ## The blocks -/

/-- The new weight at row `a` and column `q` of the block. -/
def W (a : Fin 128) (q : Fin 2048) : EReal :=
  weight (sc x0 (k0_off1 i) (k0_off1_inb i)) (sc x0 (k0_off2 i) (k0_off2_inb i)) (sc x0 (k0_off3 i) (k0_off3_inb i))
    (x1 (ix3 0 a q)) (x2 (ix3 0 a q)) (x3 (ix3 0 a q)) (x4 (ix3 0 a q))

theorem wt_at (j : Fin 16) (a b : Fin 128) : wt i x0 x1 x2 x3 x4 j (ix2 a b) = W i x0 x1 x2 x3 x4 a (col j b) := by
  unfold wt W
  rw [newW_at, sub_at, sub_at, sub_at, sub_at]

theorem out5_at (a : Fin 128) (q : Fin 2048) : out5 i x0 x1 x2 x3 x4 (ix3 0 a q) = W i x0 x1 x2 x3 x4 a q := by
  refine (assemble_at .f32 (fun j => wt i x0 x1 x2 x3 x4 j) a q).trans ((wt_at i x0 x1 x2 x3 x4 _ _ _).trans ?_)
  exact congrArg (W i x0 x1 x2 x3 x4 a) (col_grp_low q)

theorem out6_at (a : Fin 128) (q : Fin 2048) : out6 x2 x3 (ix3 0 a q) = Spec.newM (x2 (ix3 0 a q)) (x3 (ix3 0 a q)) := by
  refine (assemble_at .f32 (fun j => Tile.newM (sub x2 j) (sub x3 j)) a q).trans ((newM_at _ _ _ _).trans ?_)
  rw [sub_at, sub_at]
  exact congrArg (fun q => Spec.newM (x2 (ix3 0 a q)) (x3 (ix3 0 a q))) (col_grp_low q)

theorem out7_at (a : Fin 128) (q : Fin 2048) : out7 x2 x4 (ix3 0 a q) = Spec.newV (x2 (ix3 0 a q)) (x4 (ix3 0 a q)) := by
  refine (assemble_at .f32 (fun j => Tile.newV (sub x2 j) (sub x4 j)) a q).trans ((newV_at _ _ _ _).trans ?_)
  rw [sub_at, sub_at]
  exact congrArg (fun q => Spec.newV (x2 (ix3 0 a q)) (x4 (ix3 0 a q))) (col_grp_low q)

theorem out8_at (a : Fin 128) (q : Fin 2048) : out8 i x0 x1 x2 x3 x4 (ix3 0 a q)
    = Spec.code (W i x0 x1 x2 x3 x4 a q) (largest fun k => W i x0 x1 x2 x3 x4 a (col (grp q) k)) := by
  refine (assemble_at .fp8e4m3 (fun j => Tile.codes (wt i x0 x1 x2 x3 x4 j)) a q).trans ((codes_at _ _ _).trans ?_)
  simp only [wt_at]
  exact congrArg (fun q' => Spec.code (W i x0 x1 x2 x3 x4 a q') (largest fun k => W i x0 x1 x2 x3 x4 a (col (grp q) k))) (col_grp_low q)

theorem out9_at (j : Fin 16) (a : Fin 128) : out9 i x0 x1 x2 x3 x4 (ix3 0 j a)
    = Spec.scale (largest fun k => W i x0 x1 x2 x3 x4 a (col j k)) := by
  have e : out9 i x0 x1 x2 x3 x4 (ix3 0 j a) = Tile.scales (amax i x0 x1 x2 x3 x4) (ix2 j a) := by pointwise [out9]
  have h : amax i x0 x1 x2 x3 x4 (ix2 a ⟨j.val, by omega⟩) = Tile.amaxRow (wt i x0 x1 x2 x3 x4 j) (ix2 a 0) :=
    congrArg (fun j => Tile.amaxRow (wt i x0 x1 x2 x3 x4 j) (ix2 a 0)) (Fin.ext (Nat.mod_eq_of_lt j.isLt))
  rw [e, scales_at, h, amaxRow_at]
  simp only [wt_at]

theorem out10_at (q : Fin 2048) (a : Fin 128) : out10 i x0 x1 x2 x3 x4 (ix3 0 q a)
    = Spec.code (W i x0 x1 x2 x3 x4 a q) (largest fun k => W i x0 x1 x2 x3 x4 k q) := by
  refine (assembleT_at .fp8e4m3 (fun j => Tile.codesT (wt i x0 x1 x2 x3 x4 j)) q a).trans ((codesT_at _ _ _).trans ?_)
  simp only [wt_at]
  exact congrArg (fun q => Spec.code (W i x0 x1 x2 x3 x4 a q) (largest fun k => W i x0 x1 x2 x3 x4 k q)) (col_grp_low q)

/-- The scale of the block's column `q`. -/
theorem colScale_at (q : Fin 2048) : Tile.scale (Tile.amaxCol (wt i x0 x1 x2 x3 x4 (grp q))) (ix2 0 (low q))
    = Spec.scale (largest fun k => W i x0 x1 x2 x3 x4 k q) := by
  rw [Exponent.scale_eq, amaxCol_at]
  simp only [wt_at]
  exact congrArg (fun q => Spec.scale (largest fun k => W i x0 x1 x2 x3 x4 k q)) (col_grp_low q)

end Cert.KernelIdeal.BlockValue

end
-- ==== Proof.Table.lean ====
/- The table of scalars the kernel is given, and the weight it makes of them: the specification's. Where the step is not
   zero the bias correction of the second moment is not zero, so that multiplying by the reciprocal of its root is
   dividing by its root. -/
module

public import proofs.«01_k».proof.Proof.BlockValue
public import Idealize.ShloMosaic.Lib.StableHlo.ReadAt
public import Mathlib.Analysis.SpecialFunctions.Log.Basic
public import Mathlib.Analysis.SpecialFunctions.Pow.Real

@[expose] public section

set_option maxRecDepth 16384

noncomputable section

namespace Cert.KernelIdeal.Table

open Idealize.ShloMosaic Idealize.ShloMosaic.TcCoe Idealize.SL.Sem
open Cert.KernelIdeal.Gen Cert.KernelIdeal Cert.KernelIdeal.Block Cert.KernelIdeal.TileValue

/-! ## The table -/

variable (m : (ℓ : Loc nD τ sig) → Buf (Elt Ideal) ℓ)

/-- The learning rate and the step of layer `b`. -/
abbrev lr (c : Dev nD) (b : Fin 5) : EReal := (m ((c : Thread nD τ).loc main_arg4) : Vec Ideal S5 .f32) (ix1 b)
abbrev step (c : Dev nD) (b : Fin 5) : BitVec 32 := (m ((c : Thread nD τ).loc main_arg5) : Vec Ideal S5 .i32) (ix1 b)

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The operations before the table, and the one that stacks its three rows. -/
abbrev opsA : List (HloOp τ sig (Elt Ideal)) := hostOps0.take 27
abbrev opsB : List (HloOp τ sig (Elt Ideal)) := hostOps0.drop 27

section Stack

variable (W : Valuation τ sig (Elt Ideal))

theorem stack0 (b : Fin 5) : (StableHlo.after opsB W main_v20 : Vec Ideal S3x5 .f32) (ix2 0 b)
    = (W (Proc.tc.devRef main_v17) : Vec Ideal S1x5 .f32) (ix2 0 b) := by
  simp only [opsB, hostOps0, List.drop_succ_cons, List.drop_zero]
  after_reads_at

theorem stack1 (b : Fin 5) : (StableHlo.after opsB W main_v20 : Vec Ideal S3x5 .f32) (ix2 1 b)
    = (W (Proc.tc.devRef main_v18) : Vec Ideal S1x5 .f32) (ix2 0 b) := by
  simp only [opsB, hostOps0, List.drop_succ_cons, List.drop_zero]
  after_reads_at

theorem stack2 (b : Fin 5) : (StableHlo.after opsB W main_v20 : Vec Ideal S3x5 .f32) (ix2 2 b)
    = (W (Proc.tc.devRef main_v19) : Vec Ideal S1x5 .f32) (ix2 0 b) := by
  simp only [opsB, hostOps0, List.drop_succ_cons, List.drop_zero]
  after_reads_at

end Stack

theorem V_table (c : Dev nD) : V m c main_v20 = StableHlo.after opsB (StableHlo.after opsA fun b => m (c, b)) (Proc.tc.devRef main_v20) := by
  unfold V V0
  rw [← after_append]
  rfl

theorem row0 (c : Dev nD) (b : Fin 5) : (V m c main_v20 : Vec Ideal S3x5 .f32) (ix2 0 b) = Spec.decay (lr m c b) := by
  rw [V_table]
  refine (stack0 _ b).trans ?_
  simp only [opsA, hostOps0, List.take_succ_cons, List.take_zero]
  after_reads_at
  rfl

theorem row1 (c : Dev nD) (b : Fin 5) : (V m c main_v20 : Vec Ideal S3x5 .f32) (ix2 1 b)
    = Ideal.div (lr m c b) (Spec.bias 0x3F666666#32 (step m c b)) := by
  rw [V_table]
  refine (stack1 _ b).trans ?_
  simp only [opsA, hostOps0, List.take_succ_cons, List.take_zero]
  after_reads_at
  rfl

theorem row2 (c : Dev nD) (b : Fin 5) : (V m c main_v20 : Vec Ideal S3x5 .f32) (ix2 2 b)
    = Ideal.div 1 (Ideal.sqrt (Spec.bias 0x3F733333#32 (step m c b))) := by
  rw [V_table]
  refine (stack2 _ b).trans ?_
  simp only [opsA, hostOps0, List.take_succ_cons, List.take_zero]
  after_reads_at
  rfl

theorem ofs (b : Fin 5) : (Scalar.indexCast (BitVec.ofNat 32 b.val) : Index).toNat = b.val := by revert b; decide

theorem sc1 (x0 : Vec Ideal S3x5 .f32) (i : grid0.Coords) : sc x0 (k0_off1 i) (k0_off1_inb i) = x0 (ix2 0 (i 0)) := by
  refine congrArg x0 (funext fun d => ?_)
  match d with
  | ⟨0, _⟩ => exact Fin.ext ((Rect.idx_unit_val _ _ _ _ _).trans rfl)
  | ⟨1, _⟩ => exact Fin.ext ((Rect.idx_unit_val _ _ _ _ _).trans (ofs (i 0)))

theorem sc2 (x0 : Vec Ideal S3x5 .f32) (i : grid0.Coords) : sc x0 (k0_off2 i) (k0_off2_inb i) = x0 (ix2 1 (i 0)) := by
  refine congrArg x0 (funext fun d => ?_)
  match d with
  | ⟨0, _⟩ => exact Fin.ext ((Rect.idx_unit_val _ _ _ _ _).trans rfl)
  | ⟨1, _⟩ => exact Fin.ext ((Rect.idx_unit_val _ _ _ _ _).trans (ofs (i 0)))

theorem sc3 (x0 : Vec Ideal S3x5 .f32) (i : grid0.Coords) : sc x0 (k0_off3 i) (k0_off3_inb i) = x0 (ix2 2 (i 0)) := by
  refine congrArg x0 (funext fun d => ?_)
  match d with
  | ⟨0, _⟩ => exact Fin.ext ((Rect.idx_unit_val _ _ _ _ _).trans rfl)
  | ⟨1, _⟩ => exact Fin.ext ((Rect.idx_unit_val _ _ _ _ _).trans (ofs (i 0)))

/-! ## The reciprocal of the root -/

/-- The bias correction of the second moment is not zero where the step is not. -/
theorem root_ne (s : BitVec 32) (h : s ≠ 0#32) : Ideal.sqrt (Spec.bias 0x3F733333#32 s) ≠ 0 := by
  have hs : ((s.toInt : ℤ) : ℝ) ≠ 0 := fun e => h (BitVec.eq_of_toInt_eq (by rw [Int.cast_eq_zero.1 e]; rfl))
  have hc : Ideal.ofBits .f32 0x3F733333#32 = (((15938355 : ℝ) * (2 : ℝ) ^ (-24 : ℤ) : ℝ) : EReal) := by
    simp [Ideal.ofBits, Ideal.ieee, -EReal.coe_mul]
  have hp : Real.rpow ((15938355 : ℝ) * (2 : ℝ) ^ (-24 : ℤ)) ((s.toInt : ℤ) : ℝ) ≠ 1 := by
    intro e
    have e' := congrArg Real.log e
    rw [show Real.rpow ((15938355 : ℝ) * (2 : ℝ) ^ (-24 : ℤ)) ((s.toInt : ℤ) : ℝ) = ((15938355 : ℝ) * (2 : ℝ) ^ (-24 : ℤ)) ^ ((s.toInt : ℤ) : ℝ) from rfl,
      Real.log_rpow (by positivity), Real.log_one] at e'
    have hl : Real.log ((15938355 : ℝ) * (2 : ℝ) ^ (-24 : ℤ)) < 0 := Real.log_neg (by positivity) (by norm_num)
    exact (mul_ne_zero hs hl.ne) e'
  unfold Spec.bias
  rw [hc, show (FloatOps.sitofp (F := Ideal) .f32 s : EReal) = (((s.toInt : ℤ) : ℝ) : EReal) from rfl, Ideal.pow_coe_coe,
    ← EReal.coe_one, ← EReal.coe_sub, Ideal.sqrt_coe]
  generalize Real.rpow ((15938355 : ℝ) * (2 : ℝ) ^ (-24 : ℤ)) ((s.toInt : ℤ) : ℝ) = p at hp
  split
  · exact EReal.bot_ne_zero
  · intro e
    have e' := Real.sqrt_eq_zero'.1 (EReal.coe_eq_zero.1 e)
    exact hp (by linarith)

theorem mul_recip (x y : EReal) (h : y ≠ 0) : x * Ideal.div 1 y = Ideal.div x y := by
  unfold Ideal.div
  rw [if_neg h, if_neg h, one_mul]

/-- The kernel's weight is the specification's. -/
theorem weight_eq (l : EReal) (s : BitVec 32) (h : s ≠ 0#32) (w g p v : EReal) :
    weight (Spec.decay l) (Ideal.div l (Spec.bias 0x3F666666#32 s)) (Ideal.div 1 (Ideal.sqrt (Spec.bias 0x3F733333#32 s))) w g p v
      = Spec.newW l s w g p v := by
  unfold weight Spec.newW
  rw [mul_recip _ _ (root_ne s h)]

end Cert.KernelIdeal.Table

end
-- ==== Proof.Arrays.lean ====
/- The argument arrays and the grid: the layer, the rows and the columns a grid point works on, its input blocks as
   entries of the arguments, and the new weights it computes, which are the specification's. -/
module

public import proofs.«01_k».proof.Proof.Run
public import proofs.«01_k».proof.Proof.Table

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal.Gen Cert.KernelIdeal Cert.KernelIdeal.Block Cert.KernelIdeal.BlockValue Cert.KernelIdeal.TileValue Cert.KernelIdeal.Run

variable (m : (ℓ : Loc nD τ sig) → Buf (Elt Ideal) ℓ)

/-! ## Where a grid point's blocks sit -/

/-- The index maps of the windows, at every point. -/
theorem idx : ∀ t : Fin cfg0.N, win0_0.index t = ![0, 0]
    ∧ win0_1.index t = ![t.val / 40, t.val % 10, t.val / 10 % 4] ∧ win0_2.index t = ![t.val / 40, t.val % 10, t.val / 10 % 4]
    ∧ win0_3.index t = ![t.val / 40, t.val % 10, t.val / 10 % 4] ∧ win0_4.index t = ![t.val / 40, t.val % 10, t.val / 10 % 4]
    ∧ win0_5.index t = ![t.val / 40, t.val % 10, t.val / 10 % 4] ∧ win0_6.index t = ![t.val / 40, t.val % 10, t.val / 10 % 4]
    ∧ win0_7.index t = ![t.val / 40, t.val % 10, t.val / 10 % 4] ∧ win0_8.index t = ![t.val / 40, t.val % 10, t.val / 10 % 4]
    ∧ win0_9.index t = ![t.val / 40, t.val / 10 % 4, t.val % 10] ∧ win0_10.index t = ![t.val / 40, t.val / 10 % 4, t.val % 10]
    ∧ win0_11.index t = ![t.val / 40, 0, t.val / 10 % 4] ∧ t.val / 40 < 5 :=
  (by decide +kernel : ∀ t : Fin grid0.N, _)

theorem coord0 : ∀ t : Fin cfg0.N, ((grid0.coords t) 0).val = t.val / 40 :=
  (by decide +kernel : ∀ t : Fin grid0.N, ((grid0.coords t) 0).val = t.val / 40)

theorem layer_lt : ∀ t : Fin cfg0.N, t.val / 40 < 5 := fun t => (idx t).2.2.2.2.2.2.2.2.2.2.2.2

/-- The layer of a point, and the array's row and column of a block's row and column. -/
abbrev layer (t : Fin cfg0.N) : Fin 5 := ⟨t.val / 40, layer_lt t⟩
abbrev row (t : Fin cfg0.N) (a : Fin 128) : Fin 1280 := ⟨t.val % 10 * 128 + a.val, by omega⟩
abbrev column (t : Fin cfg0.N) (q : Fin 2048) : Fin 8192 := ⟨t.val / 10 % 4 * 2048 + q.val, by omega⟩

theorem iblk0 (c : Dev nD) (t : Fin cfg0.N) (y : S3x5.Idx) : iblk m c 0 t y = (V m c main_v20 : Vec Ideal S3x5 .f32) y := by
  blk_ext [iblk, idx t]

theorem iblk1 (c : Dev nD) (t : Fin cfg0.N) (a : Fin 128) (q : Fin 2048) : iblk m c 1 t (ix3 0 a q)
    = (m ((c : Thread nD τ).loc main_arg0) : Vec Ideal S5x1280x8192 .f32) (ix3 (layer t) (row t a) (column t q)) := by
  rw [← V_main_arg0 m c]
  blk_ext [iblk, idx t]

theorem iblk2 (c : Dev nD) (t : Fin cfg0.N) (a : Fin 128) (q : Fin 2048) : iblk m c 2 t (ix3 0 a q)
    = (m ((c : Thread nD τ).loc main_arg1) : Vec Ideal S5x1280x8192 .bf16) (ix3 (layer t) (row t a) (column t q)) := by
  rw [← V_main_arg1 m c]
  blk_ext [iblk, idx t]

theorem iblk3 (c : Dev nD) (t : Fin cfg0.N) (a : Fin 128) (q : Fin 2048) : iblk m c 3 t (ix3 0 a q)
    = (m ((c : Thread nD τ).loc main_arg2) : Vec Ideal S5x1280x8192 .f32) (ix3 (layer t) (row t a) (column t q)) := by
  rw [← V_main_arg2 m c]
  blk_ext [iblk, idx t]

theorem iblk4 (c : Dev nD) (t : Fin cfg0.N) (a : Fin 128) (q : Fin 2048) : iblk m c 4 t (ix3 0 a q)
    = (m ((c : Thread nD τ).loc main_arg3) : Vec Ideal S5x1280x8192 .f32) (ix3 (layer t) (row t a) (column t q)) := by
  rw [← V_main_arg3 m c]
  blk_ext [iblk, idx t]

/-! ## The new weights -/

/-- The new weights as the arguments give them. -/
def U (c : Dev nD) : Fin 5 → Fin 1280 → Fin 8192 → EReal :=
  Spec.weights (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- No layer is at step zero. -/
def Stepped (c : Dev nD) : Prop := ∀ b, Table.step m c b ≠ 0#32

variable {m}

theorem coords0 (t : Fin cfg0.N) : grid0.coords t 0 = layer t := Fin.ext (coord0 t)

/-- A point's weights, at their places in the array. -/
theorem W_at {c : Dev nD} (hs : Stepped m c) (t : Fin cfg0.N) (a : Fin 128) (q : Fin 2048) :
    W (grid0.coords t) (iblk m c 0 t) (iblk m c 1 t) (iblk m c 2 t) (iblk m c 3 t) (iblk m c 4 t) a q
      = U m c (layer t) (row t a) (column t q) := by
  unfold W
  rw [Table.sc1, Table.sc2, Table.sc3, iblk0, iblk0, iblk0, iblk1, iblk2, iblk3, iblk4]
  refine Eq.trans ?_ (Table.weight_eq (Table.lr m c (layer t)) (Table.step m c (layer t)) (hs _) _ _ _ _)
  rw [← Table.row0, ← Table.row1, ← Table.row2, ← coords0]

end Cert.KernelIdeal.Arrays

end
-- ==== Proof.ColScales.lean ====
/- The column scales' block after each point: the rows up to the point's row group hold the scales of the
   specification, so that after the last row group all ten do. -/
module

public import proofs.«01_k».proof.Proof.Arrays

@[expose] public section

set_option maxRecDepth 16384

noncomputable section

namespace Cert.KernelIdeal.ColScales

open Idealize.ShloMosaic Idealize.ShloMosaic.TcCoe Idealize.SL.Sem
open Idealize.ShloMosaic.Pipeline (Dat)
open Cert.KernelIdeal.Gen Cert.KernelIdeal Cert.KernelIdeal.Block Cert.KernelIdeal.BlockValue Cert.KernelIdeal.TileValue Cert.KernelIdeal.Run Cert.KernelIdeal.Arrays

variable {m : (ℓ : Loc nD τ sig) → Buf (Elt Ideal) ℓ}

/-- A block of column scales laid out as a block of one layer. -/
theorem castS_at (x : Vec Ideal S10x128 .f32) (k : Fin 10) (b : Fin 128) :
    shapeCast S1x10x128 x shapeCasts_S10x128_S1x10x128 (ix3 0 k b) = x (ix2 k b) := by
  pointwise

theorem assembleS_at (P : Fin 16 → Vec Ideal S10x128 .f32) (k : Fin 10) (q : Fin 2048) :
    assembleS (fun j => shapeCast S1x10x128 (P j) shapeCasts_S10x128_S1x10x128) (ix3 0 k q) = P (grp q) (ix2 k (low q)) :=
  castS_at (P (grp q)) k (low q)

/-- The block after the body: the rows from the point's row group on are the point's, the others as before. -/
theorem out11_at (i : grid0.Coords) (x0 : Vec Ideal S3x5 .f32) (x1 : Vec Ideal S1x128x2048 .f32) (x2 : Vec Ideal S1x128x2048 .bf16)
    (x3 x4 : Vec Ideal S1x128x2048 .f32) (x11 : Vec Ideal S1x10x2048 .f32) (k : Fin 10) (q : Fin 2048) :
    out11 i x0 x1 x2 x3 x4 x11 (ix3 0 k q)
      = if (i 2).val ≤ k.val then Spec.scale (largest fun a => BlockValue.W i x0 x1 x2 x3 x4 a q) else x11 (ix3 0 k q) := by
  refine (assembleS_at (fun j => Tile.scalesT (BitVec.ofNat 32 (i 2).val) (wt i x0 x1 x2 x3 x4 j) (subS x11 j)) k q).trans ?_
  refine (scalesT_apply (i 2) (wt i x0 x1 x2 x3 x4 (grp q)) (subS x11 (grp q)) (ix2 k (low q))).trans ?_
  refine if_congr Iff.rfl (colScale_at i x0 x1 x2 x3 x4 q) ?_
  exact (subS_at x11 (grp q) k (low q)).trans (congrArg (fun q => x11 (ix3 0 k q)) (col_grp_low q))

/-- The scale of column `q` of the point's column block in row group `k`. -/
def target (c : Dev nD) (t : Fin cfg0.N) (k : Fin 10) (q : Fin 2048) : EReal :=
  Spec.scale (Spec.colMax (U m c) (layer t) k (column t q))

/-- What the body at `t` puts in the rows of the block. -/
theorem here {c : Dev nD} (hs : Stepped m c) (t : Fin cfg0.N) (k : Fin 10) (hk : k.val = t.val % 10) (q : Fin 2048) :
    Spec.scale (largest fun a => BlockValue.W (grid0.coords t) (iblk m c 0 t) (iblk m c 1 t) (iblk m c 2 t) (iblk m c 3 t) (iblk m c 4 t) a q)
      = target (m := m) c t k q := by
  simp only [W_at hs]
  obtain ⟨k, hk'⟩ := k
  obtain rfl : k = t.val % 10 := hk
  rfl

/-- The rows up to the point's row group are final. -/
theorem st_at {c : Dev nD} (hs : Stepped m c) : ∀ (n : ℕ) (h : n < cfg0.N) (k : Fin 10), k.val ≤ n % 10 → ∀ q : Fin 2048,
    st m c n h (ix3 0 k q) = target (m := m) c ⟨n, h⟩ k q
  | 0, h, k, hk, q => by
    have c2 := coord2 ⟨0, h⟩
    dsimp only at c2
    rw [st, out11_at, if_pos (by omega)]
    exact here hs ⟨0, h⟩ k (by dsimp only; omega) q
  | n + 1, h, k, hk, q => by
    have c2 := coord2 ⟨n + 1, h⟩
    dsimp only at c2
    rw [st, out11_at]
    by_cases e : k.val = (n + 1) % 10
    · rw [if_pos (by omega)]
      exact here hs ⟨n + 1, h⟩ k e q
    · rw [if_neg (by omega), st_at hs n (Nat.lt_of_succ_lt h) k (by omega) q]
      have l : layer ⟨n, Nat.lt_of_succ_lt h⟩ = layer ⟨n + 1, h⟩ := Fin.ext (by show n / 40 = (n + 1) / 40; omega)
      have p : column ⟨n, Nat.lt_of_succ_lt h⟩ q = column ⟨n + 1, h⟩ q :=
        Fin.ext (by show n / 10 % 4 * 2048 + q.val = (n + 1) / 10 % 4 * 2048 + q.val; omega)
      unfold target
      rw [l, p]

end Cert.KernelIdeal.ColScales

end
-- ==== Proof.Places.lean ====
/- The kernel's result arrays after its run, window by window: where each point's block sits. -/
module

public import proofs.«01_k».proof.Proof.ColScales

@[expose] public section

set_option maxRecDepth 16384

noncomputable section

namespace Cert.KernelIdeal.Final

open Idealize.ShloMosaic Idealize.ShloMosaic.TcCoe Idealize.SL.Sem
open Idealize.ShloMosaic.Pipeline (Dat)
open Cert.KernelIdeal.Gen Cert.KernelIdeal Cert.KernelIdeal.Block Cert.KernelIdeal.BlockValue Cert.KernelIdeal.TileValue Cert.KernelIdeal.Run Cert.KernelIdeal.Arrays Cert.KernelIdeal.ColScales

variable {m : (ℓ : Loc nD τ sig) → Buf (Elt Ideal) ℓ}

/-! ## Where the blocks of the result windows sit -/

theorem unit3 {n1 n2 : ℕ} (y : (⟨3, ![1, n1, n2]⟩ : Shape).Idx) : ix3 0 (y 1) (y 2) = y := by
  funext d
  match d with
  | ⟨0, _⟩ => exact fin1_eq rfl _ _
  | ⟨1, _⟩ => rfl
  | ⟨2, _⟩ => rfl

/-- The column group of the array a block's column group sits at. -/
abbrev group (t : Fin cfg0.N) (j : Fin 16) : Fin 64 := ⟨t.val / 10 % 4 * 16 + j.val, by omega⟩

theorem emb5 (t : Fin cfg0.N) (y : S1x128x2048.Idx) : (((cfg0.win 5).blk t).view.emb y : S5x1280x8192.Idx) = ix3 (layer t) (row t (y 1)) (column t (y 2)) := by
  blk_ext [idx t]

theorem emb6 (t : Fin cfg0.N) (y : S1x128x2048.Idx) : (((cfg0.win 6).blk t).view.emb y : S5x1280x8192.Idx) = ix3 (layer t) (row t (y 1)) (column t (y 2)) := by
  blk_ext [idx t]

theorem emb7 (t : Fin cfg0.N) (y : S1x128x2048.Idx) : (((cfg0.win 7).blk t).view.emb y : S5x1280x8192.Idx) = ix3 (layer t) (row t (y 1)) (column t (y 2)) := by
  blk_ext [idx t]

theorem emb8 (t : Fin cfg0.N) (y : S1x128x2048.Idx) : (((cfg0.win 8).blk t).view.emb y : S5x1280x8192.Idx) = ix3 (layer t) (row t (y 1)) (column t (y 2)) := by
  blk_ext [idx t]

theorem emb9 (t : Fin cfg0.N) (y : S1x16x128.Idx) : (((cfg0.win 9).blk t).view.emb y : S5x64x1280.Idx) = ix3 (layer t) (group t (y 1)) (row t (y 2)) := by
  blk_ext [idx t]

theorem emb10 (t : Fin cfg0.N) (y : S1x2048x128.Idx) : (((cfg0.win 10).blk t).view.emb y : S5x8192x1280.Idx) = ix3 (layer t) (column t (y 1)) (row t (y 2)) := by
  blk_ext [idx t]

theorem emb11 (t : Fin cfg0.N) (y : S1x10x2048.Idx) : (((cfg0.win 11).blk t).view.emb y : S5x10x8192.Idx) = ix3 (layer t) (y 1) (column t (y 2)) := by
  blk_ext [idx t]

end Cert.KernelIdeal.Final

end
-- ==== Proof.Final.lean ====
/- The kernel's result arrays after its run, window by window. -/
module

public import proofs.«01_k».proof.Proof.Places

@[expose] public section

set_option maxRecDepth 16384

noncomputable section

namespace Cert.KernelIdeal.Final

open Idealize.ShloMosaic Idealize.ShloMosaic.TcCoe Idealize.SL.Sem
open Idealize.ShloMosaic.Pipeline (Dat)
open Cert.KernelIdeal.Gen Cert.KernelIdeal Cert.KernelIdeal.Block Cert.KernelIdeal.BlockValue Cert.KernelIdeal.TileValue Cert.KernelIdeal.Run Cert.KernelIdeal.Arrays Cert.KernelIdeal.ColScales

variable {m : (ℓ : Loc nD τ sig) → Buf (Elt Ideal) ℓ}

/-! ## An array is what every point leaves of it -/

theorem array5 (c : Dev nD) (G : Vec Ideal S5x1280x8192 .f32) (h : ∀ (t : Fin cfg0.N) (a : Fin 128) (b : Fin 2048),
    out5 (grid0.coords t) (iblk m c 0 t) (iblk m c 1 t) (iblk m c 2 t) (iblk m c 3 t) (iblk m c 4 t) (ix3 0 a b) = G (ix3 (layer t) (row t a) (column t b))) : (dats m 0 c).arrAt 5 cfg0.N = G := by
  refine (dats m 0 c).arrAt_eq_of_covers 5 G (by decide +kernel) fun t _ y => ?_
  blk_simp
  rw [after0_5]
  exact (congrArg (out5 (grid0.coords t) (iblk m c 0 t) (iblk m c 1 t) (iblk m c 2 t) (iblk m c 3 t) (iblk m c 4 t)) (unit3 y).symm).trans ((h t (y 1) (y 2)).trans (congrArg G (emb5 t y).symm))

theorem array6 (c : Dev nD) (G : Vec Ideal S5x1280x8192 .f32) (h : ∀ (t : Fin cfg0.N) (a : Fin 128) (b : Fin 2048),
    out6 (iblk m c 2 t) (iblk m c 3 t) (ix3 0 a b) = G (ix3 (layer t) (row t a) (column t b))) : (dats m 0 c).arrAt 6 cfg0.N = G := by
  refine (dats m 0 c).arrAt_eq_of_covers 6 G (by decide +kernel) fun t _ y => ?_
  blk_simp
  rw [after0_6]
  exact (congrArg (out6 (iblk m c 2 t) (iblk m c 3 t)) (unit3 y).symm).trans ((h t (y 1) (y 2)).trans (congrArg G (emb6 t y).symm))

theorem array7 (c : Dev nD) (G : Vec Ideal S5x1280x8192 .f32) (h : ∀ (t : Fin cfg0.N) (a : Fin 128) (b : Fin 2048),
    out7 (iblk m c 2 t) (iblk m c 4 t) (ix3 0 a b) = G (ix3 (layer t) (row t a) (column t b))) : (dats m 0 c).arrAt 7 cfg0.N = G := by
  refine (dats m 0 c).arrAt_eq_of_covers 7 G (by decide +kernel) fun t _ y => ?_
  blk_simp
  rw [after0_7]
  exact (congrArg (out7 (iblk m c 2 t) (iblk m c 4 t)) (unit3 y).symm).trans ((h t (y 1) (y 2)).trans (congrArg G (emb7 t y).symm))

theorem array8 (c : Dev nD) (G : Vec Ideal S5x1280x8192 .fp8e4m3) (h : ∀ (t : Fin cfg0.N) (a : Fin 128) (b : Fin 2048),
    out8 (grid0.coords t) (iblk m c 0 t) (iblk m c 1 t) (iblk m c 2 t) (iblk m c 3 t) (iblk m c 4 t) (ix3 0 a b) = G (ix3 (layer t) (row t a) (column t b))) : (dats m 0 c).arrAt 8 cfg0.N = G := by
  refine (dats m 0 c).arrAt_eq_of_covers 8 G (by decide +kernel) fun t _ y => ?_
  blk_simp
  rw [after0_8]
  exact (congrArg (out8 (grid0.coords t) (iblk m c 0 t) (iblk m c 1 t) (iblk m c 2 t) (iblk m c 3 t) (iblk m c 4 t)) (unit3 y).symm).trans ((h t (y 1) (y 2)).trans (congrArg G (emb8 t y).symm))

theorem array9 (c : Dev nD) (G : Vec Ideal S5x64x1280 .f32) (h : ∀ (t : Fin cfg0.N) (a : Fin 16) (b : Fin 128),
    out9 (grid0.coords t) (iblk m c 0 t) (iblk m c 1 t) (iblk m c 2 t) (iblk m c 3 t) (iblk m c 4 t) (ix3 0 a b) = G (ix3 (layer t) (group t a) (row t b))) : (dats m 0 c).arrAt 9 cfg0.N = G := by
  refine (dats m 0 c).arrAt_eq_of_covers 9 G (by decide +kernel) fun t _ y => ?_
  rw [cast_eq]
  have e : (cfg0.win 9).xinj (cfg0.grid.coords t) y = y := rfl
  rw [e]
  rw [after0_9]
  exact (congrArg (out9 (grid0.coords t) (iblk m c 0 t) (iblk m c 1 t) (iblk m c 2 t) (iblk m c 3 t) (iblk m c 4 t)) (unit3 y).symm).trans ((h t (y 1) (y 2)).trans (congrArg G (emb9 t y).symm))

theorem array10 (c : Dev nD) (G : Vec Ideal S5x8192x1280 .fp8e4m3) (h : ∀ (t : Fin cfg0.N) (a : Fin 2048) (b : Fin 128),
    out10 (grid0.coords t) (iblk m c 0 t) (iblk m c 1 t) (iblk m c 2 t) (iblk m c 3 t) (iblk m c 4 t) (ix3 0 a b) = G (ix3 (layer t) (column t a) (row t b))) : (dats m 0 c).arrAt 10 cfg0.N = G := by
  refine (dats m 0 c).arrAt_eq_of_covers 10 G (by decide +kernel) fun t _ y => ?_
  blk_simp
  rw [after0_10]
  exact (congrArg (out10 (grid0.coords t) (iblk m c 0 t) (iblk m c 1 t) (iblk m c 2 t) (iblk m c 3 t) (iblk m c 4 t)) (unit3 y).symm).trans ((h t (y 1) (y 2)).trans (congrArg G (emb10 t y).symm))

/-- The column scales' array is what the points of the last row group leave of it. -/
theorem array11 (c : Dev nD) (G : Vec Ideal S5x10x8192 .f32) (h : ∀ (t : Fin cfg0.N), t.val % 10 = 9 → ∀ (a : Fin 10) (b : Fin 2048),
    st m c t.val t.isLt (ix3 0 a b) = G (ix3 (layer t) a (column t b))) : (dats m 0 c).arrAt 11 cfg0.N = G := by
  refine (dats m 0 c).arrAt_eq_of_covers 11 G (by decide +kernel) fun t hf y => ?_
  blk_simp
  rw [after0_11]
  exact (congrArg (st m c t.val t.isLt) (unit3 y).symm).trans ((h t ((flush0_11 t).1 hf) (y 1) (y 2)).trans (congrArg G (emb11 t y).symm))

/-! ## The seven arrays -/

variable {c : Dev nD} (hs : Stepped m c)

include hs in
theorem weights : (dats m 0 c).arrAt 5 cfg0.N = (fun y => U m c (y 0) (y 1) (y 2) : Vec Ideal S5x1280x8192 .f32) :=
  array5 c _ fun t a q => (out5_at _ _ _ _ _ _ a q).trans (W_at hs t a q)

theorem firstMoments (c : Dev nD) : (dats m 0 c).arrAt 6 cfg0.N
    = (fun y => Spec.newM (m ((c : Thread nD τ).loc main_arg1) y) (m ((c : Thread nD τ).loc main_arg2) y) : Vec Ideal S5x1280x8192 .f32) :=
  array6 c _ fun t a q => (out6_at _ _ a q).trans (congr (congrArg Spec.newM (iblk2 m c t a q)) (iblk3 m c t a q))

theorem secondMoments (c : Dev nD) : (dats m 0 c).arrAt 7 cfg0.N
    = (fun y => Spec.newV (m ((c : Thread nD τ).loc main_arg1) y) (m ((c : Thread nD τ).loc main_arg3) y) : Vec Ideal S5x1280x8192 .f32) :=
  array7 c _ fun t a q => (out7_at _ _ a q).trans (congr (congrArg Spec.newV (iblk2 m c t a q)) (iblk4 m c t a q))

/-- The largest magnitude of a row group of a point's block is that of the array's group. -/
theorem rowMax_at (u : Fin 5 → Fin 1280 → Fin 8192 → EReal) (t : Fin cfg0.N) (i : Fin 1280) (j : Fin 16) (J : Fin 64)
    (h : J.val = t.val / 10 % 4 * 16 + j.val) :
    largest (fun k => u (layer t) i (column t (col j k))) = Spec.rowMax u (layer t) i J :=
  congrArg largest (funext fun k => congrArg (u (layer t) i)
    (Fin.ext (by show t.val / 10 % 4 * 2048 + (128 * j.val + k.val) = J.val * 128 + k.val; omega)))

theorem colMax_at (u : Fin 5 → Fin 1280 → Fin 8192 → EReal) (t : Fin cfg0.N) (j : Fin 8192) (I : Fin 10) (h : I.val = t.val % 10) :
    largest (fun k => u (layer t) (row t k) j) = Spec.colMax u (layer t) I j :=
  congrArg largest (funext fun k => congrArg (fun i => u (layer t) i j)
    (Fin.ext (by show t.val % 10 * 128 + k.val = I.val * 128 + k.val; omega)))

include hs in
theorem codes : (dats m 0 c).arrAt 8 cfg0.N = (fun y => Spec.codes (U m c) (y 0) (y 1) (y 2) : Vec Ideal S5x1280x8192 .fp8e4m3) :=
  array8 c _ fun t a q => (out8_at _ _ _ _ _ _ a q).trans (by
    simp only [W_at hs]
    exact congrArg (Spec.code _) (rowMax_at (U m c) t (row t a) (grp q) _
      (by show (t.val / 10 % 4 * 2048 + q.val) / 128 = t.val / 10 % 4 * 16 + q.val / 128; omega)))

include hs in
theorem scales : (dats m 0 c).arrAt 9 cfg0.N
    = (fun y => Spec.scale (Spec.rowMax (U m c) (y 0) (y 2) (y 1)) : Vec Ideal S5x64x1280 .f32) :=
  array9 c _ fun t j a => (out9_at _ _ _ _ _ _ j a).trans (by
    simp only [W_at hs]
    exact congrArg Spec.scale (rowMax_at (U m c) t (row t a) j (group t j) rfl))

include hs in
theorem codesT : (dats m 0 c).arrAt 10 cfg0.N = (fun y => Spec.codesT (U m c) (y 0) (y 1) (y 2) : Vec Ideal S5x8192x1280 .fp8e4m3) :=
  array10 c _ fun t q a => (out10_at _ _ _ _ _ _ q a).trans (by
    simp only [W_at hs]
    exact congrArg (Spec.code _) (colMax_at (U m c) t (column t q) _
      (by show (t.val % 10 * 128 + a.val) / 128 = t.val % 10; omega)))

include hs in
theorem scalesT : (dats m 0 c).arrAt 11 cfg0.N
    = (fun y => Spec.scale (Spec.colMax (U m c) (y 0) (y 1) (y 2)) : Vec Ideal S5x10x8192 .f32) :=
  array11 c _ fun t ht a q => st_at hs t.val t.isLt a (by omega) q

end Cert.KernelIdeal.Final

end
-- ==== Proof.Result.lean ====
/- The run of the kernel: its seven results, the two transposed after the region among them, are the specification's
   functions of the arguments. -/
module

public import proofs.«01_k».proof.Proof.Final

@[expose] public section

set_option maxRecDepth 16384

noncomputable section

namespace Cert.KernelIdeal.Result

open Idealize.ShloMosaic Idealize.ShloMosaic.TcCoe Idealize.SL.Sem
open Cert.KernelIdeal.Gen Cert.KernelIdeal Cert.KernelIdeal.Run Cert.KernelIdeal.Arrays

/-! ## The two transposes after the region -/

section After

variable (W : Valuation τ sig (Elt Ideal))

theorem scales_after (b : Fin 5) (i : Fin 1280) (J : Fin 64) :
    (StableHlo.after (hostOps1 (F := Ideal)) W main_v22 : Vec Ideal S5x1280x64 .f32) (ix3 b i J)
      = (W (Proc.tc.devRef main_v21_4) : Vec Ideal S5x64x1280 .f32) (ix3 b J i) := by
  after_reads_at

theorem scalesT_after (b : Fin 5) (j : Fin 8192) (I : Fin 10) :
    (StableHlo.after (hostOps1 (F := Ideal)) W main_v23 : Vec Ideal S5x8192x10 .f32) (ix3 b j I)
      = (W (Proc.tc.devRef main_v21_6) : Vec Ideal S5x10x8192 .f32) (ix3 b I j) := by
  after_reads_at

end After

variable (m : (ℓ : Loc nD τ sig) → Buf (Elt Ideal) ℓ) (ρ : Dev nD → PrngReg)

theorem arrays_distinct : Function.Injective (Pipeline.arrRef cfg0.spec) := by
  exact (by decide : Function.Injective (Pipeline.arrRef spec0))

/-- The buffers as the region leaves them. -/
def afterRegion (c : Dev nD) : Valuation τ sig (Elt Ideal) := Pipeline.withArrays cfg0.spec c (V0 m c) fun w => (dats m 0 c).arrAt w cfg0.N

theorem afterRegion_9 (c : Dev nD) : afterRegion m c (Proc.tc.devRef main_v21_4) = (dats m 0 c).arrAt 9 cfg0.N :=
  Pipeline.withArrays_arr cfg0.spec arrays_distinct c (V0 m c) _ 9

theorem afterRegion_11 (c : Dev nD) : afterRegion m c (Proc.tc.devRef main_v21_6) = (dats m 0 c).arrAt 11 cfg0.N :=
  Pipeline.withArrays_arr cfg0.spec arrays_distinct c (V0 m c) _ 11

/-- An array is known by its entries. -/
theorem ext3 {n0 n1 n2 : ℕ} {α : Type} {x : (⟨3, ![n0, n1, n2]⟩ : Shape).Idx → α} {f : Fin n0 → Fin n1 → Fin n2 → α}
    (h : ∀ a b c, x (ix3 a b c) = f a b c) : x = fun y => f (y 0) (y 1) (y 2) :=
  funext fun y => (congrArg x (ix3_eta y).symm).trans (h (y 0) (y 1) (y 2))

theorem tail22 (c : Dev nD) : Pipeline.afterTail₀ cfgs (dats m) 0 (V0 m) [hostOps1] c main_v22
    = StableHlo.after hostOps1 (afterRegion m c) (Proc.tc.devRef main_v22) := rfl

theorem tail23 (c : Dev nD) : Pipeline.afterTail₀ cfgs (dats m) 0 (V0 m) [hostOps1] c main_v23
    = StableHlo.after hostOps1 (afterRegion m c) (Proc.tc.devRef main_v23) := rfl

variable {m}

theorem scales {c : Dev nD} (hs : Stepped m c) : Pipeline.afterTail₀ cfgs (dats m) 0 (V0 m) [hostOps1] c main_v22
    = (fun y => Spec.scale (Spec.rowMax (U m c) (y 0) (y 1) (y 2)) : Vec Ideal S5x1280x64 .f32) := by
  rw [tail22]
  refine ext3 (f := fun b i J => Spec.scale (Spec.rowMax (U m c) b i J)) fun b i J => (scales_after _ b i J).trans ?_
  rw [afterRegion_9, Final.scales hs]
  rfl

theorem scalesT {c : Dev nD} (hs : Stepped m c) : Pipeline.afterTail₀ cfgs (dats m) 0 (V0 m) [hostOps1] c main_v23
    = (fun y => Spec.scale (Spec.colMax (U m c) (y 0) (y 2) (y 1)) : Vec Ideal S5x8192x10 .f32) := by
  rw [tail23]
  refine ext3 (f := fun b j I => Spec.scale (Spec.colMax (U m c) b I j)) fun b j I => (scalesT_after _ b j I).trans ?_
  rw [afterRegion_11, Final.scalesT hs]
  rfl

/-- The run of the kernel from a memory where no layer is at step zero. -/
theorem run (hs : ∀ c, Stepped m c) : θ_run defs (onTc (τ := τ) (main (F := Ideal))) ⟨m, fun _ => 0, ρ⟩ fun r => ∀ c : Dev nD,
      r.2.mem ((c : Thread nD τ).loc main_v21_0) = (fun y => U m c (y 0) (y 1) (y 2) : Vec Ideal S5x1280x8192 .f32)
      ∧ r.2.mem ((c : Thread nD τ).loc main_v21_1) = (fun y => Spec.newM (m ((c : Thread nD τ).loc main_arg1) y) (m ((c : Thread nD τ).loc main_arg2) y) : Vec Ideal S5x1280x8192 .f32)
      ∧ r.2.mem ((c : Thread nD τ).loc main_v21_2) = (fun y => Spec.newV (m ((c : Thread nD τ).loc main_arg1) y) (m ((c : Thread nD τ).loc main_arg3) y) : Vec Ideal S5x1280x8192 .f32)
      ∧ r.2.mem ((c : Thread nD τ).loc main_v21_3) = (fun y => Spec.codes (U m c) (y 0) (y 1) (y 2) : Vec Ideal S5x1280x8192 .fp8e4m3)
      ∧ r.2.mem ((c : Thread nD τ).loc main_v22) = (fun y => Spec.scale (Spec.rowMax (U m c) (y 0) (y 1) (y 2)) : Vec Ideal S5x1280x64 .f32)
      ∧ r.2.mem ((c : Thread nD τ).loc main_v21_5) = (fun y => Spec.codesT (U m c) (y 0) (y 1) (y 2) : Vec Ideal S5x8192x1280 .fp8e4m3)
      ∧ r.2.mem ((c : Thread nD τ).loc main_v23) = (fun y => Spec.scale (Spec.colMax (U m c) (y 0) (y 2) (y 1)) : Vec Ideal S5x8192x10 .f32) :=
  (θ_run defs _ _).mono (fun r h c => ⟨
      ((h c).1 5).trans (Final.weights (hs c)),
      ((h c).1 6).trans (Final.firstMoments c),
      ((h c).1 7).trans (Final.secondMoments c),
      ((h c).1 8).trans (Final.codes (hs c)),
      ((h c).2 main_v22 (Pipeline.mem_restRefs_of main_v22 (by decide) (by decide))).trans (scales (hs c)),
      ((h c).1 10).trans (Final.codesT (hs c)),
      ((h c).2 main_v23 (Pipeline.mem_restRefs_of main_v23 (by decide) (by decide))).trans (scalesT (hs c))⟩)
    (run_main m ρ)

end Cert.KernelIdeal.Result

end
-- ==== Proof.RefStages.lean ====
/- What the reference computes: its host operations, read in five stretches, leave in each buffer the
   specification's function of the argument arrays. -/
module

public import proofs.«01_k».proof.Proof.Gen.ReferenceIdeal.Value
public import proofs.«01_k».proof.Proof.Spec
public import Idealize.ShloMosaic.Lib.Pointwise
public import Idealize.ShloMosaic.Lib.StableHlo.ReadAt
public import Idealize.ShloMosaic.Lib.Pipeline.ValueKit

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen

/-- The exponent as the reference's operations spell it. -/
theorem select_eq (a : EReal) :
    Scalar.select (IntOp.ori (BitVec.ofBool (decide (a * Ideal.ofBits .f32 991054117#32 < Ideal.ofBits .f32 8388608#32)))
        (BitVec.ofBool (decide (Ideal.ofBits .f32 2139095039#32 < a))))
      (FloatOps.sitofp (F := Ideal) .f32 0#32)
      (Ideal.liftRound Int.floor (Ideal.div (Ideal.log (a * Ideal.ofBits .f32 991054117#32)) (Ideal.log (Ideal.ofBits .f32 1073741824#32))) + 1)
      = Spec.expo a := by
  have z : (FloatOps.sitofp (F := Ideal) .f32 0#32 : EReal) = 0 := by show (((0#32 : BitVec 32).toInt : ℝ) : EReal) = 0; simp
  rw [z, Spec.expo, Spec.part]
  by_cases p : a * Ideal.ofBits .f32 991054117#32 < Ideal.ofBits .f32 8388608#32 <;>
    by_cases q : Ideal.ofBits .f32 2139095039#32 < a <;> simp [Scalar.select, IntOp.ori, p, q]

/-! ## The operations in five stretches -/

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- Up to the new weights. -/
abbrev ops1 : List (HloOp τ sig (Elt Ideal)) := hostOps0.take 52

/-- The largest magnitudes along the rows. -/
abbrev ops2 : List (HloOp τ sig (Elt Ideal)) := (hostOps0.drop 52).take 4

/-- The scales and codes along the rows. -/
abbrev ops3 : List (HloOp τ sig (Elt Ideal)) := hostOps0.drop 56 ++ (hostOps0_1 ++ (hostOps0_2 ++ hostOps0_3))

/-- The largest magnitudes along the columns. -/
abbrev ops4 : List (HloOp τ sig (Elt Ideal)) := hostOps0_4.take 5

/-- The scales and codes along the columns. -/
abbrev ops5 : List (HloOp τ sig (Elt Ideal)) := hostOps0_4.drop 5 ++ (hostOps0_5 ++ (hostOps0_6 ++ (hostOps0_7 ++ hostOps0_8)))

theorem flatten_eq : List.flatten [hostOps0, hostOps0_1, hostOps0_2, hostOps0_3, hostOps0_4, hostOps0_5, hostOps0_6, hostOps0_7, hostOps0_8]
    = ops1 ++ (ops2 ++ (ops3 ++ (ops4 ++ ops5))) := rfl

section Stretches

variable (W : Valuation τ sig (Elt Ideal))

theorem ops2_max (b : Fin 5) (i : Fin 1280) (J : Fin 64) :
    (StableHlo.after ops2 W main_v43 : Vec Ideal S5x1280x64 .f32) (ix3 b i J)
      = Spec.rowMax (fun b i j => (W (Proc.tc.devRef main_v40) : Vec Ideal S5x1280x8192 .f32) (ix3 b i j)) b i J := by
  simp only [ops2, hostOps0, List.drop_succ_cons, List.drop_zero, List.take_succ_cons, List.take_zero]
  after_reads_at
  rfl

theorem ops2_groups (b : Fin 5) (i : Fin 1280) (J : Fin 64) (k : Fin 128) (j : Fin 8192) (h : J.val * 128 + k.val = j.val) :
    (StableHlo.after ops2 W main_v41 : Vec Ideal S5x1280x64x128 .f32) (ix4 b i J k)
      = (W (Proc.tc.devRef main_v40) : Vec Ideal S5x1280x8192 .f32) (ix3 b i j) := by
  simp only [ops2, hostOps0, List.drop_succ_cons, List.drop_zero, List.take_succ_cons, List.take_zero]
  after_reads_at
  exact congrArg (fun j => (W (Proc.tc.devRef main_v40) : Vec Ideal S5x1280x8192 .f32) (ix3 b i j)) (Fin.ext h)

theorem ops2_weights : StableHlo.after ops2 W main_v40 = W (Proc.tc.devRef main_v40) := by
  simp only [ops2, hostOps0, List.drop_succ_cons, List.drop_zero, List.take_succ_cons, List.take_zero]
  after_reads_simp

theorem ops3_scale (b : Fin 5) (i : Fin 1280) (J : Fin 64) :
    (StableHlo.after ops3 W main_v60 : Vec Ideal S5x1280x64 .f32) (ix3 b i J)
      = Spec.scale ((W (Proc.tc.devRef main_v43) : Vec Ideal S5x1280x64 .f32) (ix3 b i J)) := by
  simp only [ops3, hostOps0, hostOps0_1, hostOps0_2, hostOps0_3, List.drop_succ_cons, List.drop_zero, List.cons_append, List.nil_append]
  after_reads_at
  rw [select_eq]
  rfl

theorem ops3_weights : StableHlo.after ops3 W main_v40 = W (Proc.tc.devRef main_v40) := by
  simp only [ops3, hostOps0, hostOps0_1, hostOps0_2, hostOps0_3, List.drop_succ_cons, List.drop_zero, List.cons_append, List.nil_append]
  after_reads_simp

theorem ops3_code (b : Fin 5) (i : Fin 1280) (J : Fin 64) (k : Fin 128) :
    (StableHlo.after ops3 W main_v67 : Vec Ideal S5x1280x64x128 .f32) (ix4 b i J k)
      = Spec.code ((W (Proc.tc.devRef main_v41) : Vec Ideal S5x1280x64x128 .f32) (ix4 b i J k))
          ((W (Proc.tc.devRef main_v43) : Vec Ideal S5x1280x64 .f32) (ix3 b i J)) := by
  simp only [ops3, hostOps0, hostOps0_1, hostOps0_2, hostOps0_3, List.drop_succ_cons, List.drop_zero, List.cons_append, List.nil_append]
  after_reads_at
  rw [select_eq]
  rfl

theorem ops4_max (b : Fin 5) (I : Fin 10) (j : Fin 8192) :
    (StableHlo.after ops4 W main_v71 : Vec Ideal S5x10x8192 .f32) (ix3 b I j)
      = Spec.colMax (fun b i j => (W (Proc.tc.devRef main_v40) : Vec Ideal S5x1280x8192 .f32) (ix3 b i j)) b I j := by
  simp only [ops4, hostOps0_4, List.take_succ_cons, List.take_zero]
  after_reads_at
  rfl

theorem ops4_groups (b : Fin 5) (I : Fin 10) (k : Fin 128) (j : Fin 8192) (i : Fin 1280) (h : I.val * 128 + k.val = i.val) :
    (StableHlo.after ops4 W main_v69 : Vec Ideal S5x10x128x8192 .f32) (ix4 b I k j)
      = (W (Proc.tc.devRef main_v40) : Vec Ideal S5x1280x8192 .f32) (ix3 b i j) := by
  simp only [ops4, hostOps0_4, List.take_succ_cons, List.take_zero]
  after_reads_at
  exact congrArg (fun i => (W (Proc.tc.devRef main_v40) : Vec Ideal S5x1280x8192 .f32) (ix3 b i j)) (Fin.ext h)

theorem ops4_codes (b : Fin 5) (i : Fin 1280) (j : Fin 8192) :
    (StableHlo.after ops4 W main_v68 : Vec Ideal S5x1280x8192 .f32) (ix3 b i j)
      = (W (Proc.tc.devRef main_v67) : Vec Ideal S5x1280x64x128 .f32) (ix4 b i ⟨j.val / 128, by omega⟩ ⟨j.val % 128, by omega⟩) := by
  simp only [ops4, hostOps0_4, List.take_succ_cons, List.take_zero]
  after_reads_at

theorem ops4_scale : StableHlo.after ops4 W main_v60 = W (Proc.tc.devRef main_v60) := by
  simp only [ops4, hostOps0_4, List.take_succ_cons, List.take_zero]
  after_reads_simp

theorem ops5_scale : StableHlo.after ops5 W main_v60 = W (Proc.tc.devRef main_v60) := by
  simp only [ops5, hostOps0_4, hostOps0_5, hostOps0_6, hostOps0_7, hostOps0_8, List.drop_succ_cons, List.drop_zero, List.cons_append, List.nil_append]
  after_reads_simp

theorem ops5_codes : StableHlo.after ops5 W main_v68 = W (Proc.tc.devRef main_v68) := by
  simp only [ops5, hostOps0_4, hostOps0_5, hostOps0_6, hostOps0_7, hostOps0_8, List.drop_succ_cons, List.drop_zero, List.cons_append, List.nil_append]
  after_reads_simp

theorem ops5_scaleT (b : Fin 5) (j : Fin 8192) (I : Fin 10) :
    (StableHlo.after ops5 W main_v98 : Vec Ideal S5x8192x10 .f32) (ix3 b j I)
      = Spec.scale ((W (Proc.tc.devRef main_v71) : Vec Ideal S5x10x8192 .f32) (ix3 b I j)) := by
  simp only [ops5, hostOps0_4, hostOps0_5, hostOps0_6, hostOps0_7, hostOps0_8, List.drop_succ_cons, List.drop_zero, List.cons_append, List.nil_append]
  after_reads_at
  rw [select_eq]
  rfl

theorem ops5_codeT (b : Fin 5) (j : Fin 8192) (i : Fin 1280) :
    (StableHlo.after ops5 W main_v97 : Vec Ideal S5x8192x1280 .f32) (ix3 b j i)
      = Spec.code ((W (Proc.tc.devRef main_v69) : Vec Ideal S5x10x128x8192 .f32) (ix4 b ⟨i.val / 128, by omega⟩ ⟨i.val % 128, by omega⟩ j))
          ((W (Proc.tc.devRef main_v71) : Vec Ideal S5x10x8192 .f32) (ix3 b ⟨i.val / 128, by omega⟩ j)) := by
  simp only [ops5, hostOps0_4, hostOps0_5, hostOps0_6, hostOps0_7, hostOps0_8, List.drop_succ_cons, List.drop_zero, List.cons_append, List.nil_append]
  after_reads_at
  rw [select_eq]
  rfl

end Stretches

/-! ## The results before the region -/

variable (m : (ℓ : Loc nD τ sig) → Buf (Elt Ideal) ℓ)

/-- The new weights as the reference's arguments give them. -/
def U (c : Dev nD) : Fin 5 → Fin 1280 → Fin 8192 → EReal :=
  Spec.weights (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The weights. -/
theorem weights_at (c : Dev nD) (b : Fin 5) (i : Fin 1280) (j : Fin 8192) :
    (V m c main_v40 : Vec Ideal S5x1280x8192 .f32) (ix3 b i j) = U m c b i j := by
  unfold V
  after_reads_at
  rfl

/-- The first moments. -/
theorem firstMoments_at (c : Dev nD) (b : Fin 5) (i : Fin 1280) (j : Fin 8192) :
    (V m c main_v5 : Vec Ideal S5x1280x8192 .f32) (ix3 b i j)
      = Spec.newM ((m ((c : Thread nD τ).loc main_arg1) : Vec Ideal S5x1280x8192 .bf16) (ix3 b i j))
          ((m ((c : Thread nD τ).loc main_arg2) : Vec Ideal S5x1280x8192 .f32) (ix3 b i j)) := by
  unfold V
  after_reads_at
  rfl

/-- The second moments. -/
theorem secondMoments_at (c : Dev nD) (b : Fin 5) (i : Fin 1280) (j : Fin 8192) :
    (V m c main_v11 : Vec Ideal S5x1280x8192 .f32) (ix3 b i j)
      = Spec.newV ((m ((c : Thread nD τ).loc main_arg1) : Vec Ideal S5x1280x8192 .bf16) (ix3 b i j))
          ((m ((c : Thread nD τ).loc main_arg3) : Vec Ideal S5x1280x8192 .f32) (ix3 b i j)) := by
  unfold V
  after_reads_at
  rfl

/-- The buffers after the first stretch. -/
def W1 (c : Dev nD) : Valuation τ sig (Elt Ideal) := StableHlo.after ops1 fun b => m (c, b)

/-- The weights after the first stretch. -/
theorem W1_weights (c : Dev nD) (b : Fin 5) (i : Fin 1280) (j : Fin 8192) :
    (W1 m c (Proc.tc.devRef main_v40) : Vec Ideal S5x1280x8192 .f32) (ix3 b i j) = U m c b i j := by
  simp only [W1, ops1, hostOps0, List.take_succ_cons, List.take_zero]
  after_reads_at
  rfl

theorem W1_fun (c : Dev nD) :
    (fun b i j => (W1 m c (Proc.tc.devRef main_v40) : Vec Ideal S5x1280x8192 .f32) (ix3 b i j)) = U m c :=
  funext fun b => funext fun i => funext fun j => W1_weights m c b i j

theorem V_eq (c : Dev nD) (r : Ref sig .tc) :
    V m c r = StableHlo.after ops5 (StableHlo.after ops4 (StableHlo.after ops3 (StableHlo.after ops2 (W1 m c)))) (Proc.tc.devRef r) := by
  unfold V W1
  rw [flatten_eq, after_append, after_append, after_append, after_append]

/-- The scales of the groups along the rows. -/
theorem scales_at (c : Dev nD) (b : Fin 5) (i : Fin 1280) (J : Fin 64) :
    (V m c main_v60 : Vec Ideal S5x1280x64 .f32) (ix3 b i J) = Spec.scale (Spec.rowMax (U m c) b i J) := by
  rw [V_eq, ops5_scale, ops4_scale, ops3_scale, ops2_max]
  exact congrArg (fun u => Spec.scale (Spec.rowMax u b i J)) (W1_fun m c)

/-- The codes along the rows, before the cast. -/
theorem codes_at (c : Dev nD) (b : Fin 5) (i : Fin 1280) (j : Fin 8192) :
    (V m c main_v68 : Vec Ideal S5x1280x8192 .f32) (ix3 b i j) = Spec.codes (U m c) b i j := by
  rw [V_eq, ops5_codes, ops4_codes, ops3_code]
  exact congr (congrArg Spec.code ((ops2_groups (W1 m c) b i _ _ j (Nat.div_add_mod' _ _)).trans (W1_weights m c b i j)))
    ((ops2_max (W1 m c) b i _).trans (congrArg (fun u => Spec.rowMax u b i ⟨j.val / 128, by omega⟩) (W1_fun m c)))

/-- The scales of the groups along the columns. -/
theorem scalesT_at (c : Dev nD) (b : Fin 5) (j : Fin 8192) (I : Fin 10) :
    (V m c main_v98 : Vec Ideal S5x8192x10 .f32) (ix3 b j I) = Spec.scale (Spec.colMax (U m c) b I j) := by
  rw [V_eq, ops5_scaleT, ops4_max, ops3_weights, ops2_weights]
  exact congrArg (fun u => Spec.scale (Spec.colMax u b I j)) (W1_fun m c)

/-- The codes along the columns, transposed, before the cast. -/
theorem codesT_at (c : Dev nD) (b : Fin 5) (j : Fin 8192) (i : Fin 1280) :
    (V m c main_v97 : Vec Ideal S5x8192x1280 .f32) (ix3 b j i) = Spec.codesT (U m c) b j i := by
  have e (W : Valuation τ sig (Elt Ideal)) (b i j) :
      (StableHlo.after ops3 (StableHlo.after ops2 W) main_v40 : Vec Ideal S5x1280x8192 .f32) (ix3 b i j)
        = (W (Proc.tc.devRef main_v40) : Vec Ideal S5x1280x8192 .f32) (ix3 b i j) := by rw [ops3_weights, ops2_weights]
  rw [V_eq, ops5_codeT]
  exact congr (congrArg Spec.code ((ops4_groups _ b _ _ j i (Nat.div_add_mod' _ _)).trans ((e _ b i j).trans (W1_weights m c b i j))))
    ((ops4_max _ b _ j).trans (congrArg (fun u => Spec.colMax u b ⟨i.val / 128, by omega⟩ j)
      (funext fun b => funext fun i => funext fun j => (e _ b i j).trans (W1_weights m c b i j))))

end Cert.ReferenceIdeal.Ref

end
-- ==== Proof.Reference.lean ====
/- What the reference computes: each of its seven results, read at an index, is the specification's function of the
   argument arrays. -/
module

public import proofs.«01_k».proof.Proof.Gen.ReferenceIdeal.Value
public import proofs.«01_k».proof.Proof.RefStages
public import Idealize.ShloMosaic.Lib.Pointwise
public import Idealize.ShloMosaic.Lib.StableHlo.ReadAt
public import Idealize.ShloMosaic.Lib.Pipeline.ValueKit

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ) (ρ : Dev nD → PrngReg)

/-- The region's body only changes the format of its blocks. -/
theorem pay1_eq (x : Vec Ideal S5x1280x8192 .f32) (y : S5x1280x8192.Idx) : k0_pay1 x y = x y := by
  rw [lay2_0_eq]
  exact shapeCast_apply _ _ y y rfl

theorem pay2_eq (x : Vec Ideal S5x8192x1280 .f32) (y : S5x8192x1280.Idx) : k0_pay2 x y = x y := by
  rw [lay3_0_eq]
  exact shapeCast_apply _ _ y y rfl

theorem idx0 : ∀ t : Fin cfg0.N, win0_0.index t = ![0, 0, 0] ∧ win0_1.index t = ![0, 0, 0] :=
  (by decide +kernel : ∀ t : Fin grid0.N, _)

theorem iblk0 (c : Dev nD) (y : S5x1280x8192.Idx) : iblk m c 0 t0_0 y = (V m c main_v68 : Vec Ideal S5x1280x8192 .f32) y := by
  blk_ext [iblk, idx0 t0_0]

theorem iblk1 (c : Dev nD) (y : S5x8192x1280.Idx) : iblk m c 1 t0_0 y = (V m c main_v97 : Vec Ideal S5x8192x1280 .f32) y := by
  blk_ext [iblk, idx0 t0_0]

/-- The codes along the rows. -/
theorem codes (c : Dev nD) : (dats m 0 c).arrAt 2 cfg0.N
    = (fun y => Spec.codes (U m c) (y 0) (y 1) (y 2) : Vec Ideal S5x1280x8192 .fp8e4m3) := by
  refine (dats m 0 c).arrAt_eq_of_after_last 2 t0_0 (by decide +kernel) _ fun y => ?_
  blk_simp
  rw [after0_2]
  frame_out
  refine (pay1_eq _ y).trans ((iblk0 m c y).trans ?_)
  exact (congrArg (V m c main_v68 : Vec Ideal S5x1280x8192 .f32) (ix3_eta y).symm).trans (codes_at m c (y 0) (y 1) (y 2))

/-- The codes along the columns. -/
theorem codesT (c : Dev nD) : (dats m 0 c).arrAt 3 cfg0.N
    = (fun y => Spec.codesT (U m c) (y 0) (y 1) (y 2) : Vec Ideal S5x8192x1280 .fp8e4m3) := by
  refine (dats m 0 c).arrAt_eq_of_after_last 3 t0_0 (by decide +kernel) _ fun y => ?_
  blk_simp
  rw [after0_3]
  frame_out
  refine (pay2_eq _ y).trans ((iblk1 m c y).trans ?_)
  exact (congrArg (V m c main_v97 : Vec Ideal S5x8192x1280 .f32) (ix3_eta y).symm).trans (codesT_at m c (y 0) (y 1) (y 2))

/-- An array is known by its entries. -/
theorem ext3 {n0 n1 n2 : ℕ} {α : Type} {x : (⟨3, ![n0, n1, n2]⟩ : Shape).Idx → α} {f : Fin n0 → Fin n1 → Fin n2 → α}
    (h : ∀ a b c, x (ix3 a b c) = f a b c) : x = fun y => f (y 0) (y 1) (y 2) :=
  funext fun y => (congrArg x (ix3_eta y).symm).trans (h (y 0) (y 1) (y 2))

/-- The run of the reference: its seven results are the specification's functions of the arguments, which it leaves. -/
theorem run : θ_run defs (onTc (τ := τ) (main (F := Ideal))) ⟨m, fun _ => 0, ρ⟩ fun r => ∀ c : Dev nD,
      r.2.mem ((c : Thread nD τ).loc main_v40) = (fun y => U m c (y 0) (y 1) (y 2) : Vec Ideal S5x1280x8192 .f32)
      ∧ r.2.mem ((c : Thread nD τ).loc main_v5) = (fun y => Spec.newM (m ((c : Thread nD τ).loc main_arg1) y) (m ((c : Thread nD τ).loc main_arg2) y) : Vec Ideal S5x1280x8192 .f32)
      ∧ r.2.mem ((c : Thread nD τ).loc main_v11) = (fun y => Spec.newV (m ((c : Thread nD τ).loc main_arg1) y) (m ((c : Thread nD τ).loc main_arg3) y) : Vec Ideal S5x1280x8192 .f32)
      ∧ r.2.mem ((c : Thread nD τ).loc main_v99_0) = (fun y => Spec.codes (U m c) (y 0) (y 1) (y 2) : Vec Ideal S5x1280x8192 .fp8e4m3)
      ∧ r.2.mem ((c : Thread nD τ).loc main_v60) = (fun y => Spec.scale (Spec.rowMax (U m c) (y 0) (y 1) (y 2)) : Vec Ideal S5x1280x64 .f32)
      ∧ r.2.mem ((c : Thread nD τ).loc main_v99_1) = (fun y => Spec.codesT (U m c) (y 0) (y 1) (y 2) : Vec Ideal S5x8192x1280 .fp8e4m3)
      ∧ r.2.mem ((c : Thread nD τ).loc main_v98) = (fun y => Spec.scale (Spec.colMax (U m c) (y 0) (y 2) (y 1)) : Vec Ideal S5x8192x10 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨
      ((h c).2 main_v40 (Pipeline.mem_restRefs_of main_v40 (by decide) (by decide))).trans (ext3 (weights_at m c)),
      ((h c).2 main_v5 (Pipeline.mem_restRefs_of main_v5 (by decide) (by decide))).trans
        ((ext3 (firstMoments_at m c)).trans (funext fun y => congrArg (fun z => Spec.newM (m ((c : Thread nD τ).loc main_arg1) z) (m ((c : Thread nD τ).loc main_arg2) z)) (ix3_eta y))),
      ((h c).2 main_v11 (Pipeline.mem_restRefs_of main_v11 (by decide) (by decide))).trans
        ((ext3 (secondMoments_at m c)).trans (funext fun y => congrArg (fun z => Spec.newV (m ((c : Thread nD τ).loc main_arg1) z) (m ((c : Thread nD τ).loc main_arg3) z)) (ix3_eta y))),
      (post2 m r h c).trans (codes m c),
      ((h c).2 main_v60 (Pipeline.mem_restRefs_of main_v60 (by decide) (by decide))).trans (ext3 (scales_at m c)),
      (post3 m r h c).trans (codesT m c),
      ((h c).2 main_v98 (Pipeline.mem_restRefs_of main_v98 (by decide) (by decide))).trans (ext3 (scalesT_at m c)),
      kept_main_arg0 m r h c, kept_main_arg1 m r h c, kept_main_arg2 m r h c, kept_main_arg3 m r h c, kept_main_arg4 m r h c, kept_main_arg5 m r h c⟩)
    (run_main m ρ)

end Cert.ReferenceIdeal.Ref

end
-- ==== Proof.lean ====
/- The certificate. The frames come from the runs of the two readings of the kernel (`Words.Run`, `Run`) and of the
   reference; the value claim from `Result.run` and `Ref.run`, which give the seven results of the kernel and of the
   reference as the same functions of the arguments (`Spec`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_stepped
public import proofs.«01_k».proof.Proof.Gen.ReferenceIdeal.Value
public import proofs.«01_k».proof.Proof.Words.Run
public import proofs.«01_k».proof.Proof.Result
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The precondition says what `Stepped` says: no layer is at step zero. -/
theorem stepped (m : (ℓ : Loc Cert.KernelIdeal.nD Cert.KernelIdeal.τ Cert.KernelIdeal.sig) → Buf (Elt Ideal) ℓ)
    (h : @Cert.Pre_KernelIdeal_stepped Cert.Pre_stepped.Gen.facts m) (c : Dev Cert.KernelIdeal.nD) : Cert.KernelIdeal.Arrays.Stepped m c := by
  intro b e
  have hb := congrFun (h c) (ix1 b)
  change BitVec.ofBool (Cert.KernelIdeal.Table.step m c b != 0#32) = 1#1 at hb
  rw [e] at hb
  exact absurd hb (by decide)

/-- The kernel's weights and the reference's are one function of equal arguments. -/
theorem algebraic : @Cert.algebraic_KernelIdeal_ReferenceIdeal_pre_stepped Cert.KernelIdeal.Gen.facts Cert.ReferenceIdeal.Gen.facts
    Cert.Pre_stepped.Gen.facts := by
  intro m g m' g' hpre hargs
  have hs : ∀ c, Cert.KernelIdeal.Arrays.Stepped m c := stepped m hpre
  have hU : ∀ c : Dev Cert.KernelIdeal.nD, Cert.ReferenceIdeal.Ref.U m' c = Cert.KernelIdeal.Arrays.U m c := fun c => by
    obtain ⟨h0, h1, h2, h3, h4, h5⟩ := hargs c
    unfold Cert.ReferenceIdeal.Ref.U Cert.KernelIdeal.Arrays.U
    rw [h0, h1, h2, h3, h4, h5]
  refine ⟨fun c => (fun y => Cert.KernelIdeal.Arrays.U m c (y 0) (y 1) (y 2) : Vec Ideal Cert.KernelIdeal.S5x1280x8192 .f32),
    fun c => (fun y => Spec.newM (m ((c : Thread Cert.KernelIdeal.nD Cert.KernelIdeal.τ).loc Cert.KernelIdeal.main_arg1) y)
      (m ((c : Thread Cert.KernelIdeal.nD Cert.KernelIdeal.τ).loc Cert.KernelIdeal.main_arg2) y) : Vec Ideal Cert.KernelIdeal.S5x1280x8192 .f32),
    fun c => (fun y => Spec.newV (m ((c : Thread Cert.KernelIdeal.nD Cert.KernelIdeal.τ).loc Cert.KernelIdeal.main_arg1) y)
      (m ((c : Thread Cert.KernelIdeal.nD Cert.KernelIdeal.τ).loc Cert.KernelIdeal.main_arg3) y) : Vec Ideal Cert.KernelIdeal.S5x1280x8192 .f32),
    fun c => (fun y => Spec.codes (Cert.KernelIdeal.Arrays.U m c) (y 0) (y 1) (y 2) : Vec Ideal Cert.KernelIdeal.S5x1280x8192 .fp8e4m3),
    fun c => (fun y => Spec.scale (Spec.rowMax (Cert.KernelIdeal.Arrays.U m c) (y 0) (y 1) (y 2)) : Vec Ideal Cert.KernelIdeal.S5x1280x64 .f32),
    fun c => (fun y => Spec.codesT (Cert.KernelIdeal.Arrays.U m c) (y 0) (y 1) (y 2) : Vec Ideal Cert.KernelIdeal.S5x8192x1280 .fp8e4m3),
    fun c => (fun y => Spec.scale (Spec.colMax (Cert.KernelIdeal.Arrays.U m c) (y 0) (y 2) (y 1)) : Vec Ideal Cert.KernelIdeal.S5x8192x10 .f32),
    (θ_run _ _ _).mono (fun r h c => ?_) (θ_run_and (Cert.KernelIdeal.Result.run g hs) (Cert.KernelIdeal.Run.unchanged m g)),
    (θ_run _ _ _).mono (fun r h c => ?_) (Cert.ReferenceIdeal.Ref.run m' g')⟩
  · obtain ⟨k0, k1, k2, k3, k4, k5, k6⟩ := h.1 c
    exact ⟨k0, k1, k2, k3, k4, k5, k6, h.2 c⟩
  · obtain ⟨h0, h1, h2, h3, h4, h5⟩ := hargs c
    obtain ⟨k0, k1, k2, k3, k4, k5, k6, kept⟩ := h c
    rw [hU c] at k0 k3 k4 k5 k6
    rw [h1, h2] at k1
    rw [h1, h3] at k2
    exact ⟨k0, k1, k2, k3, k4, k5, k6, kept⟩

theorem claim : Cert.Claim := ⟨Cert.Kernel.Gen.facts, Cert.KernelIdeal.Gen.facts, Cert.ReferenceIdeal.Gen.facts, Cert.Pre_stepped.Gen.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, algebraic⟩

end Cert.Proof

end
